-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "big" .f32 0x7F7FFFFF#32 ⊤

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x2048x128 : Shape := ⟨3, ![16, 2048, 128]⟩
abbrev S1x2048x128 : Shape := ⟨3, ![1, 2048, 128]⟩
abbrev S2048x128 : Shape := ⟨2, ![2048, 128]⟩
abbrev S_ : Shape := ⟨0, ![]⟩

class Facts : Prop where
  slices_S16x2048x128_S1x2048x128_0_0_0 : S16x2048x128.Slices ![0, 0, 0] S1x2048x128
  shapeCasts_S1x2048x128_S2048x128 : S1x2048x128.ShapeCasts S2048x128
  bcast_S_S2048x128 : S_.BroadcastsInDim S2048x128 (![] : Fin 0 → Fin S2048x128.rank)

variable [Facts]

def fn {F : FTy → Type} [FloatOps F] (main_arg0 : FVec F S16x2048x128 .f32) (main_arg1 : FVec F S16x2048x128 .f32) : IVec S2048x128 1 :=
  let main_v0 : FVec F S1x2048x128 .f32 := (extractStridedSlice S1x2048x128 ![0, 0, 0] · slices_S16x2048x128_S1x2048x128_0_0_0) main_arg0
  let main_v1 : FVec F S2048x128 .f32 := shapeCast S2048x128 main_v0 shapeCasts_S1x2048x128_S2048x128
  let main_v2 : FVec F S2048x128 .f32 := Host.absf main_v1
  let main_cst : FVec F S_ .f32 := constant S_ .f32 0x7F800000#32
  let main_v3 : FVec F S2048x128 .f32 := broadcastInDim S2048x128 ![] bcast_S_S2048x128 main_cst
  let main_v4 : IVec S2048x128 1 := cmpf .olt main_v2 main_v3
  let main_v5 : FVec F S1x2048x128 .f32 := (extractStridedSlice S1x2048x128 ![0, 0, 0] · slices_S16x2048x128_S1x2048x128_0_0_0) main_arg1
  let main_v6 : FVec F S2048x128 .f32 := shapeCast S2048x128 main_v5 shapeCasts_S1x2048x128_S2048x128
  let main_v7 : FVec F S2048x128 .f32 := Host.absf main_v6
  let main_cst_0 : FVec F S_ .f32 := constant S_ .f32 0x7F800000#32
  let main_v8 : FVec F S2048x128 .f32 := broadcastInDim S2048x128 ![] bcast_S_S2048x128 main_cst_0
  let main_v9 : IVec S2048x128 1 := cmpf .olt main_v7 main_v8
  let main_v10 : IVec S2048x128 1 := andi main_v4 main_v9
  main_v10
-- ==== Kernel.lean ====
abbrev S16x2048x128 : Shape := ⟨3, ![16, 2048, 128]⟩
abbrev S1x2048x128 : Shape := ⟨3, ![1, 2048, 128]⟩
abbrev S2048x128 : Shape := ⟨2, ![2048, 128]⟩
abbrev S2048 : Shape := ⟨1, ![2048]⟩
abbrev S_ : Shape := ⟨0, ![]⟩
abbrev S2048x1 : Shape := ⟨2, ![2048, 1]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x1 : Shape := ⟨2, ![1, 1]⟩
abbrev S2x2048x128 : Shape := ⟨3, ![2, 2048, 128]⟩
abbrev S256x128 : Shape := ⟨2, ![256, 128]⟩
abbrev S8x256x256 : Shape := ⟨3, ![8, 256, 256]⟩
abbrev S8x256 : Shape := ⟨2, ![8, 256]⟩
abbrev S1 : Shape := ⟨1, ![1]⟩
abbrev S1x2x2048x128 : Shape := ⟨4, ![1, 2, 2048, 128]⟩
abbrev S1x1x1x1 : Shape := ⟨4, ![1, 1, 1, 1]⟩
abbrev S256x130 : Shape := ⟨2, ![256, 130]⟩
abbrev S2048x130 : Shape := ⟨2, ![2048, 130]⟩
abbrev S256x2048 : Shape := ⟨2, ![256, 2048]⟩
abbrev S1x256x256 : Shape := ⟨3, ![1, 256, 256]⟩
abbrev S8x8x256 : Shape := ⟨3, ![8, 8, 256]⟩
abbrev S64x256 : Shape := ⟨2, ![64, 256]⟩

abbrev nBuf : Space → Nat
  | .hbm => 222
  | .vmem => 13
  | .smem => 1
  | _ => 0

abbrev hbmTy0_0 (i : Nat) : BufTy := match i % 128 with
  | 0 => ⟨S16x2048x128, .f32⟩
  | 1 => ⟨S16x2048x128, .f32⟩
  | 2 => ⟨S1x2048x128, .f32⟩
  | 3 => ⟨S2048x128, .f32⟩
  | 4 => ⟨S2048, .i32⟩
  | 5 => ⟨S_, .i32⟩
  | 6 => ⟨S_, .i32⟩
  | 7 => ⟨S_, .i32⟩
  | 8 => ⟨S_, .i1⟩
  | 9 => ⟨S_, .i32⟩
  | 10 => ⟨S_, .i32⟩
  | 11 => ⟨S2048, .i32⟩
  | 12 => ⟨S2048, .i32⟩
  | 13 => ⟨S_, .i32⟩
  | 14 => ⟨S2048, .i32⟩
  | 15 => ⟨S2048, .i1⟩
  | 16 => ⟨S_, .i32⟩
  | 17 => ⟨S2048, .i32⟩
  | 18 => ⟨S2048, .i1⟩
  | 19 => ⟨S_, .i32⟩
  | 20 => ⟨S_, .i1⟩
  | 21 => ⟨S2048, .i1⟩
  | 22 => ⟨S2048, .i1⟩
  | 23 => ⟨S2048, .i1⟩
  | 24 => ⟨S2048, .i32⟩
  | 25 => ⟨S2048, .i32⟩
  | 26 => ⟨S2048, .i32⟩
  | 27 => ⟨S_, .i32⟩
  | 28 => ⟨S2048, .i32⟩
  | 29 => ⟨S2048, .i32⟩
  | 30 => ⟨S2048, .i32⟩
  | 31 => ⟨S_, .i32⟩
  | 32 => ⟨S_, .i32⟩
  | 33 => ⟨S2048, .i32⟩
  | 34 => ⟨S2048, .i32⟩
  | 35 => ⟨S2048, .i32⟩
  | 36 => ⟨S_, .i32⟩
  | 37 => ⟨S2048, .i32⟩
  | 38 => ⟨S2048, .i1⟩
  | 39 => ⟨S2048, .i32⟩
  | 40 => ⟨S2048, .i32⟩
  | 41 => ⟨S_, .i32⟩
  | 42 => ⟨S2048, .i32⟩
  | 43 => ⟨S2048, .i1⟩
  | 44 => ⟨S2048, .i1⟩
  | 45 => ⟨S_, .i32⟩
  | 46 => ⟨S2048, .i32⟩
  | 47 => ⟨S2048, .i32⟩
  | 48 => ⟨S2048, .i32⟩
  | 49 => ⟨S2048, .i32⟩
  | 50 => ⟨S1x2048x128, .f32⟩
  | 51 => ⟨S2048x128, .f32⟩
  | 52 => ⟨S_, .i32⟩
  | 53 => ⟨S2048, .i32⟩
  | 54 => ⟨S2048, .i1⟩
  | 55 => ⟨S_, .i32⟩
  | 56 => ⟨S2048, .i32⟩
  | 57 => ⟨S2048, .i32⟩
  | 58 => ⟨S2048, .i32⟩
  | 59 => ⟨S2048x1, .i32⟩
  | 60 => ⟨S2048x128, .f32⟩
  | 61 => ⟨S64, .i32⟩
  | 62 => ⟨S_, .i32⟩
  | 63 => ⟨S_, .i32⟩
  | 64 => ⟨S_, .i32⟩
  | 65 => ⟨S_, .i1⟩
  | 66 => ⟨S_, .i32⟩
  | 67 => ⟨S_, .i32⟩
  | 68 => ⟨S64, .i32⟩
  | 69 => ⟨S64, .i32⟩
  | 70 => ⟨S_, .i32⟩
  | 71 => ⟨S64, .i32⟩
  | 72 => ⟨S64, .i1⟩
  | 73 => ⟨S_, .i32⟩
  | 74 => ⟨S64, .i32⟩
  | 75 => ⟨S64, .i1⟩
  | 76 => ⟨S_, .i32⟩
  | 77 => ⟨S_, .i1⟩
  | 78 => ⟨S64, .i1⟩
  | 79 => ⟨S64, .i1⟩
  | 80 => ⟨S64, .i1⟩
  | 81 => ⟨S64, .i32⟩
  | 82 => ⟨S64, .i32⟩
  | 83 => ⟨S64, .i32⟩
  | 84 => ⟨S_, .i32⟩
  | 85 => ⟨S64, .i32⟩
  | 86 => ⟨S64, .i32⟩
  | 87 => ⟨S_, .i32⟩
  | 88 => ⟨S_, .i32⟩
  | 89 => ⟨S64, .i32⟩
  | 90 => ⟨S64, .i32⟩
  | 91 => ⟨S64, .i32⟩
  | 92 => ⟨S_, .i32⟩
  | 93 => ⟨S64, .i32⟩
  | 94 => ⟨S64, .i1⟩
  | 95 => ⟨S64, .i32⟩
  | 96 => ⟨S64, .i32⟩
  | 97 => ⟨S_, .i32⟩
  | 98 => ⟨S64, .i32⟩
  | 99 => ⟨S64, .i1⟩
  | 100 => ⟨S64, .i1⟩
  | 101 => ⟨S_, .i32⟩
  | 102 => ⟨S64, .i32⟩
  | 103 => ⟨S64, .i32⟩
  | 104 => ⟨S64, .i32⟩
  | 105 => ⟨S64, .i32⟩
  | 106 => ⟨S64x1, .i32⟩
  | 107 => ⟨S64, .i32⟩
  | 108 => ⟨S1x64, .i32⟩
  | 109 => ⟨S64x64, .i32⟩
  | 110 => ⟨S64x64, .i32⟩
  | 111 => ⟨S64x64, .i1⟩
  | 112 => ⟨S64x64, .f32⟩
  | 113 => ⟨S64x1, .i32⟩
  | 114 => ⟨S_, .i32⟩
  | 115 => ⟨S_, .i32⟩
  | 116 => ⟨S64x1, .i32⟩
  | 117 => ⟨S64x1, .i32⟩
  | 118 => ⟨S64x1, .i32⟩
  | 119 => ⟨S_, .i32⟩
  | 120 => ⟨S64x1, .i32⟩
  | 121 => ⟨S64x1, .i1⟩
  | 122 => ⟨S64x1, .i32⟩
  | 123 => ⟨S64x1, .i32⟩
  | 124 => ⟨S_, .i32⟩
  | 125 => ⟨S64x1, .i32⟩
  | 126 => ⟨S64x1, .i1⟩
  | 127 => ⟨S64x1, .i1⟩
  | _ => ⟨S16x2048x128, .f32⟩

abbrev hbmTy0_1 (i : Nat) : BufTy := match i % 128 with
  | 0 => ⟨S_, .i32⟩
  | 1 => ⟨S64x1, .i32⟩
  | 2 => ⟨S64x1, .i32⟩
  | 3 => ⟨S64x1, .i32⟩
  | 4 => ⟨S1x64, .i32⟩
  | 5 => ⟨S_, .i32⟩
  | 6 => ⟨S_, .i32⟩
  | 7 => ⟨S1x64, .i32⟩
  | 8 => ⟨S1x64, .i32⟩
  | 9 => ⟨S1x64, .i32⟩
  | 10 => ⟨S_, .i32⟩
  | 11 => ⟨S1x64, .i32⟩
  | 12 => ⟨S1x64, .i1⟩
  | 13 => ⟨S1x64, .i32⟩
  | 14 => ⟨S1x64, .i32⟩
  | 15 => ⟨S_, .i32⟩
  | 16 => ⟨S1x64, .i32⟩
  | 17 => ⟨S1x64, .i1⟩
  | 18 => ⟨S1x64, .i1⟩
  | 19 => ⟨S_, .i32⟩
  | 20 => ⟨S1x64, .i32⟩
  | 21 => ⟨S1x64, .i32⟩
  | 22 => ⟨S1x64, .i32⟩
  | 23 => ⟨S64x64, .i32⟩
  | 24 => ⟨S64x64, .i32⟩
  | 25 => ⟨S64x64, .i1⟩
  | 26 => ⟨S1x64, .i32⟩
  | 27 => ⟨S_, .i32⟩
  | 28 => ⟨S_, .i32⟩
  | 29 => ⟨S_, .i32⟩
  | 30 => ⟨S_, .i1⟩
  | 31 => ⟨S_, .i32⟩
  | 32 => ⟨S_, .i32⟩
  | 33 => ⟨S1x64, .i32⟩
  | 34 => ⟨S1x64, .i32⟩
  | 35 => ⟨S_, .i32⟩
  | 36 => ⟨S1x64, .i32⟩
  | 37 => ⟨S1x64, .i1⟩
  | 38 => ⟨S_, .i32⟩
  | 39 => ⟨S1x64, .i32⟩
  | 40 => ⟨S1x64, .i1⟩
  | 41 => ⟨S_, .i32⟩
  | 42 => ⟨S_, .i1⟩
  | 43 => ⟨S1x64, .i1⟩
  | 44 => ⟨S1x64, .i1⟩
  | 45 => ⟨S1x64, .i1⟩
  | 46 => ⟨S1x64, .i32⟩
  | 47 => ⟨S1x64, .i32⟩
  | 48 => ⟨S1x64, .i32⟩
  | 49 => ⟨S64x1, .i32⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S64x1, .i32⟩
  | 57 => ⟨S64x1, .i32⟩
  | 58 => ⟨S_, .i32⟩
  | 59 => ⟨S64x1, .i32⟩
  | 60 => ⟨S64x1, .i1⟩
  | 61 => ⟨S_, .i32⟩
  | 62 => ⟨S64x1, .i32⟩
  | 63 => ⟨S64x1, .i1⟩
  | 64 => ⟨S_, .i32⟩
  | 65 => ⟨S_, .i1⟩
  | 66 => ⟨S64x1, .i1⟩
  | 67 => ⟨S64x1, .i1⟩
  | 68 => ⟨S64x1, .i1⟩
  | 69 => ⟨S64x1, .i32⟩
  | 70 => ⟨S64x1, .i32⟩
  | 71 => ⟨S64x1, .i32⟩
  | 72 => ⟨S64x64, .i32⟩
  | 73 => ⟨S64x64, .i32⟩
  | 74 => ⟨S64x64, .i1⟩
  | 75 => ⟨S64x64, .i1⟩
  | 76 => ⟨S64x64, .f32⟩
  | 77 => ⟨S_, .i32⟩
  | 78 => ⟨S64, .i32⟩
  | 79 => ⟨S64, .i1⟩
  | 80 => ⟨S_, .i32⟩
  | 81 => ⟨S64, .i32⟩
  | 82 => ⟨S64, .i32⟩
  | 83 => ⟨S64, .i32⟩
  | 84 => ⟨S64x1, .i32⟩
  | 85 => ⟨S64x64, .f32⟩
  | 86 => ⟨S256, .i32⟩
  | 87 => ⟨S256x1, .i32⟩
  | 88 => ⟨S1x256, .i32⟩
  | 89 => ⟨S256x256, .i32⟩
  | 90 => ⟨S256x256, .i32⟩
  | 91 => ⟨S256x256, .i1⟩
  | 92 => ⟨S256x256, .f32⟩
  | 93 => ⟨S1x1, .f32⟩
  | _ => ⟨S16x2048x128, .f32⟩

abbrev hbmTy (i : Nat) : BufTy := match i / 128 with
  | 0 => hbmTy0_0 i
  | 1 => hbmTy0_1 i
  | _ => ⟨S16x2048x128, .f32⟩

abbrev bufTy : (tb : Table) → Fin (tcTables nBuf tb) → BufTy
  | .hbm, ⟨i, _⟩ => hbmTy i
  | .local _ .vmem, ⟨0, _⟩ => ⟨S2x2048x128, .f32⟩
  | .local _ .vmem, ⟨1, _⟩ => ⟨S2x2048x128, .f32⟩
  | .local _ .vmem, ⟨2, _⟩ => ⟨S2x2048x128, .f32⟩
  | .local _ .vmem, ⟨3, _⟩ => ⟨S2x2048x128, .f32⟩
  | .local _ .vmem, ⟨4, _⟩ => ⟨S256x128, .f32⟩
  | .local _ .vmem, ⟨5, _⟩ => ⟨S256x128, .f32⟩
  | .local _ .vmem, ⟨6, _⟩ => ⟨S2048x128, .f32⟩
  | .local _ .vmem, ⟨7, _⟩ => ⟨S64x64, .f32⟩
  | .local _ .vmem, ⟨8, _⟩ => ⟨S64x64, .f32⟩
  | .local _ .vmem, ⟨9, _⟩ => ⟨S256x256, .f32⟩
  | .local _ .vmem, ⟨10, _⟩ => ⟨S1x1, .f32⟩
  | .local _ .vmem, ⟨11, _⟩ => ⟨S8x256x256, .f32⟩
  | .local _ .vmem, ⟨12, _⟩ => ⟨S8x256, .f32⟩
  | .local _ .smem, ⟨0, _⟩ => ⟨S1, .f32⟩
  | _, _ => ⟨S16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_1 : Ref sig .tc := ⟨.hbm, 13, rfl⟩
abbrev main_call0_v5 : Ref sig .tc := ⟨.hbm, 14, rfl⟩
abbrev main_call0_v6 : Ref sig .tc := ⟨.hbm, 15, rfl⟩
abbrev main_call0_c_2 : Ref sig .tc := ⟨.hbm, 16, rfl⟩
abbrev main_call0_v7 : Ref sig .tc := ⟨.hbm, 17, rfl⟩
abbrev main_call0_v8 : Ref sig .tc := ⟨.hbm, 18, rfl⟩
abbrev main_call0_c_3 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_v3 : Ref sig .tc := ⟨.hbm, 26, rfl⟩
abbrev main_c_0 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_c_1 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_c : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_0 : Ref sig .tc := ⟨.hbm, 45, rfl⟩
abbrev main_call1_v12 : Ref sig .tc := ⟨.hbm, 46, rfl⟩
abbrev main_call1_v13 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_c_2 : Ref sig .tc := ⟨.hbm, 52, rfl⟩
abbrev main_v11 : Ref sig .tc := ⟨.hbm, 53, rfl⟩
abbrev main_v12 : Ref sig .tc := ⟨.hbm, 54, rfl⟩
abbrev main_c_3 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_c_4 : Ref sig .tc := ⟨.hbm, 62, rfl⟩
abbrev main_call2_v0 : Ref sig .tc := ⟨.hbm, 63, rfl⟩
abbrev main_call2_c : Ref sig .tc := ⟨.hbm, 64, rfl⟩
abbrev main_call2_v1 : Ref sig .tc := ⟨.hbm, 65, rfl⟩
abbrev main_call2_c_0 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_c_1 : Ref sig .tc := ⟨.hbm, 70, rfl⟩
abbrev main_call2_v5 : Ref sig .tc := ⟨.hbm, 71, rfl⟩
abbrev main_call2_v6 : Ref sig .tc := ⟨.hbm, 72, rfl⟩
abbrev main_call2_c_2 : Ref sig .tc := ⟨.hbm, 73, rfl⟩
abbrev main_call2_v7 : Ref sig .tc := ⟨.hbm, 74, rfl⟩
abbrev main_call2_v8 : Ref sig .tc := ⟨.hbm, 75, rfl⟩
abbrev main_call2_c_3 : Ref sig .tc := ⟨.hbm, 76, rfl⟩
abbrev main_call2_v9 : Ref sig .tc := ⟨.hbm, 77, rfl⟩
abbrev main_call2_v10 : Ref sig .tc := ⟨.hbm, 78, rfl⟩
abbrev main_call2_v11 : Ref sig .tc := ⟨.hbm, 79, rfl⟩
abbrev main_call2_v12 : Ref sig .tc := ⟨.hbm, 80, rfl⟩
abbrev main_call2_v13 : Ref sig .tc := ⟨.hbm, 81, rfl⟩
abbrev main_call2_v14 : Ref sig .tc := ⟨.hbm, 82, rfl⟩
abbrev main_v19 : Ref sig .tc := ⟨.hbm, 83, rfl⟩
abbrev main_c_5 : Ref sig .tc := ⟨.hbm, 84, rfl⟩
abbrev main_v20 : Ref sig .tc := ⟨.hbm, 85, rfl⟩
abbrev main_v21 : Ref sig .tc := ⟨.hbm, 86, rfl⟩
abbrev main_c_6 : Ref sig .tc := ⟨.hbm, 87, rfl⟩
abbrev main_call3_v0 : Ref sig .tc := ⟨.hbm, 88, rfl⟩
abbrev main_call3_v1 : Ref sig .tc := ⟨.hbm, 89, rfl⟩
abbrev main_call3_v2 : Ref sig .tc := ⟨.hbm, 90, rfl⟩
abbrev main_call3_v3 : Ref sig .tc := ⟨.hbm, 91, rfl⟩
abbrev main_call3_v4 : Ref sig .tc := ⟨.hbm, 92, rfl⟩
abbrev main_call3_v5 : Ref sig .tc := ⟨.hbm, 93, rfl⟩
abbrev main_call3_v6 : Ref sig .tc := ⟨.hbm, 94, rfl⟩
abbrev main_call3_v7 : Ref sig .tc := ⟨.hbm, 95, rfl⟩
abbrev main_call3_v8 : Ref sig .tc := ⟨.hbm, 96, rfl⟩
abbrev main_call3_c : Ref sig .tc := ⟨.hbm, 97, rfl⟩
abbrev main_call3_v9 : Ref sig .tc := ⟨.hbm, 98, rfl⟩
abbrev main_call3_v10 : Ref sig .tc := ⟨.hbm, 99, rfl⟩
abbrev main_call3_v11 : Ref sig .tc := ⟨.hbm, 100, rfl⟩
abbrev main_call3_c_0 : Ref sig .tc := ⟨.hbm, 101, rfl⟩
abbrev main_call3_v12 : Ref sig .tc := ⟨.hbm, 102, rfl⟩
abbrev main_call3_v13 : Ref sig .tc := ⟨.hbm, 103, rfl⟩
abbrev main_v22 : Ref sig .tc := ⟨.hbm, 104, rfl⟩
abbrev main_v23 : Ref sig .tc := ⟨.hbm, 105, rfl⟩
abbrev main_v24 : Ref sig .tc := ⟨.hbm, 106, rfl⟩
abbrev main_v25 : Ref sig .tc := ⟨.hbm, 107, rfl⟩
abbrev main_v26 : Ref sig .tc := ⟨.hbm, 108, rfl⟩
abbrev main_v27 : Ref sig .tc := ⟨.hbm, 109, rfl⟩
abbrev main_v28 : Ref sig .tc := ⟨.hbm, 110, rfl⟩
abbrev main_v29 : Ref sig .tc := ⟨.hbm, 111, rfl⟩
abbrev main_v30 : Ref sig .tc := ⟨.hbm, 112, rfl⟩
abbrev main_v31 : Ref sig .tc := ⟨.hbm, 113, rfl⟩
abbrev main_c_7 : Ref sig .tc := ⟨.hbm, 114, rfl⟩
abbrev main_call4_v0 : Ref sig .tc := ⟨.hbm, 115, rfl⟩
abbrev main_call4_v1 : Ref sig .tc := ⟨.hbm, 116, rfl⟩
abbrev main_call4_v2 : Ref sig .tc := ⟨.hbm, 117, rfl⟩
abbrev main_call4_v3 : Ref sig .tc := ⟨.hbm, 118, rfl⟩
abbrev main_call4_v4 : Ref sig .tc := ⟨.hbm, 119, rfl⟩
abbrev main_call4_v5 : Ref sig .tc := ⟨.hbm, 120, rfl⟩
abbrev main_call4_v6 : Ref sig .tc := ⟨.hbm, 121, rfl⟩
abbrev main_call4_v7 : Ref sig .tc := ⟨.hbm, 122, rfl⟩
abbrev main_call4_v8 : Ref sig .tc := ⟨.hbm, 123, rfl⟩
abbrev main_call4_c : Ref sig .tc := ⟨.hbm, 124, rfl⟩
abbrev main_call4_v9 : Ref sig .tc := ⟨.hbm, 125, rfl⟩
abbrev main_call4_v10 : Ref sig .tc := ⟨.hbm, 126, rfl⟩
abbrev main_call4_v11 : Ref sig .tc := ⟨.hbm, 127, rfl⟩
abbrev main_call4_c_0 : Ref sig .tc := ⟨.hbm, 128, rfl⟩
abbrev main_call4_v12 : Ref sig .tc := ⟨.hbm, 129, rfl⟩
abbrev main_call4_v13 : Ref sig .tc := ⟨.hbm, 130, rfl⟩
abbrev main_v32 : Ref sig .tc := ⟨.hbm, 131, rfl⟩
abbrev main_v33 : Ref sig .tc := ⟨.hbm, 132, rfl⟩
abbrev main_c_8 : Ref sig .tc := ⟨.hbm, 133, rfl⟩
abbrev main_call5_v0 : Ref sig .tc := ⟨.hbm, 134, rfl⟩
abbrev main_call5_v1 : Ref sig .tc := ⟨.hbm, 135, rfl⟩
abbrev main_call5_v2 : Ref sig .tc := ⟨.hbm, 136, rfl⟩
abbrev main_call5_v3 : Ref sig .tc := ⟨.hbm, 137, rfl⟩
abbrev main_call5_v4 : Ref sig .tc := ⟨.hbm, 138, rfl⟩
abbrev main_call5_v5 : Ref sig .tc := ⟨.hbm, 139, rfl⟩
abbrev main_call5_v6 : Ref sig .tc := ⟨.hbm, 140, rfl⟩
abbrev main_call5_v7 : Ref sig .tc := ⟨.hbm, 141, rfl⟩
abbrev main_call5_v8 : Ref sig .tc := ⟨.hbm, 142, rfl⟩
abbrev main_call5_c : Ref sig .tc := ⟨.hbm, 143, rfl⟩
abbrev main_call5_v9 : Ref sig .tc := ⟨.hbm, 144, rfl⟩
abbrev main_call5_v10 : Ref sig .tc := ⟨.hbm, 145, rfl⟩
abbrev main_call5_v11 : Ref sig .tc := ⟨.hbm, 146, rfl⟩
abbrev main_call5_c_0 : Ref sig .tc := ⟨.hbm, 147, rfl⟩
abbrev main_call5_v12 : Ref sig .tc := ⟨.hbm, 148, rfl⟩
abbrev main_call5_v13 : Ref sig .tc := ⟨.hbm, 149, rfl⟩
abbrev main_v34 : Ref sig .tc := ⟨.hbm, 150, rfl⟩
abbrev main_v35 : Ref sig .tc := ⟨.hbm, 151, rfl⟩
abbrev main_v36 : Ref sig .tc := ⟨.hbm, 152, rfl⟩
abbrev main_v37 : Ref sig .tc := ⟨.hbm, 153, rfl⟩
abbrev main_v38 : Ref sig .tc := ⟨.hbm, 154, rfl⟩
abbrev main_c_9 : Ref sig .tc := ⟨.hbm, 155, rfl⟩
abbrev main_call6_v0 : Ref sig .tc := ⟨.hbm, 156, rfl⟩
abbrev main_call6_c : Ref sig .tc := ⟨.hbm, 157, rfl⟩
abbrev main_call6_v1 : Ref sig .tc := ⟨.hbm, 158, rfl⟩
abbrev main_call6_c_0 : Ref sig .tc := ⟨.hbm, 159, rfl⟩
abbrev main_call6_v2 : Ref sig .tc := ⟨.hbm, 160, rfl⟩
abbrev main_call6_v3 : Ref sig .tc := ⟨.hbm, 161, rfl⟩
abbrev main_call6_v4 : Ref sig .tc := ⟨.hbm, 162, rfl⟩
abbrev main_call6_c_1 : Ref sig .tc := ⟨.hbm, 163, rfl⟩
abbrev main_call6_v5 : Ref sig .tc := ⟨.hbm, 164, rfl⟩
abbrev main_call6_v6 : Ref sig .tc := ⟨.hbm, 165, rfl⟩
abbrev main_call6_c_2 : Ref sig .tc := ⟨.hbm, 166, rfl⟩
abbrev main_call6_v7 : Ref sig .tc := ⟨.hbm, 167, rfl⟩
abbrev main_call6_v8 : Ref sig .tc := ⟨.hbm, 168, rfl⟩
abbrev main_call6_c_3 : Ref sig .tc := ⟨.hbm, 169, rfl⟩
abbrev main_call6_v9 : Ref sig .tc := ⟨.hbm, 170, rfl⟩
abbrev main_call6_v10 : Ref sig .tc := ⟨.hbm, 171, rfl⟩
abbrev main_call6_v11 : Ref sig .tc := ⟨.hbm, 172, rfl⟩
abbrev main_call6_v12 : Ref sig .tc := ⟨.hbm, 173, rfl⟩
abbrev main_call6_v13 : Ref sig .tc := ⟨.hbm, 174, rfl⟩
abbrev main_call6_v14 : Ref sig .tc := ⟨.hbm, 175, rfl⟩
abbrev main_v39 : Ref sig .tc := ⟨.hbm, 176, rfl⟩
abbrev main_v40 : Ref sig .tc := ⟨.hbm, 177, rfl⟩
abbrev main_c_10 : Ref sig .tc := ⟨.hbm, 178, rfl⟩
abbrev main_call7_v0 : Ref sig .tc := ⟨.hbm, 179, rfl⟩
abbrev main_call7_c : Ref sig .tc := ⟨.hbm, 180, rfl⟩
abbrev main_call7_v1 : Ref sig .tc := ⟨.hbm, 181, rfl⟩
abbrev main_call7_c_0 : Ref sig .tc := ⟨.hbm, 182, rfl⟩
abbrev main_call7_v2 : Ref sig .tc := ⟨.hbm, 183, rfl⟩
abbrev main_call7_v3 : Ref sig .tc := ⟨.hbm, 184, rfl⟩
abbrev main_call7_v4 : Ref sig .tc := ⟨.hbm, 185, rfl⟩
abbrev main_call7_c_1 : Ref sig .tc := ⟨.hbm, 186, rfl⟩
abbrev main_call7_v5 : Ref sig .tc := ⟨.hbm, 187, rfl⟩
abbrev main_call7_v6 : Ref sig .tc := ⟨.hbm, 188, rfl⟩
abbrev main_call7_c_2 : Ref sig .tc := ⟨.hbm, 189, rfl⟩
abbrev main_call7_v7 : Ref sig .tc := ⟨.hbm, 190, rfl⟩
abbrev main_call7_v8 : Ref sig .tc := ⟨.hbm, 191, rfl⟩
abbrev main_call7_c_3 : Ref sig .tc := ⟨.hbm, 192, rfl⟩
abbrev main_call7_v9 : Ref sig .tc := ⟨.hbm, 193, rfl⟩
abbrev main_call7_v10 : Ref sig .tc := ⟨.hbm, 194, rfl⟩
abbrev main_call7_v11 : Ref sig .tc := ⟨.hbm, 195, rfl⟩
abbrev main_call7_v12 : Ref sig .tc := ⟨.hbm, 196, rfl⟩
abbrev main_call7_v13 : Ref sig .tc := ⟨.hbm, 197, rfl⟩
abbrev main_call7_v14 : Ref sig .tc := ⟨.hbm, 198, rfl⟩
abbrev main_v41 : Ref sig .tc := ⟨.hbm, 199, rfl⟩
abbrev main_v42 : Ref sig .tc := ⟨.hbm, 200, rfl⟩
abbrev main_v43 : Ref sig .tc := ⟨.hbm, 201, rfl⟩
abbrev main_v44 : Ref sig .tc := ⟨.hbm, 202, rfl⟩
abbrev main_v45 : Ref sig .tc := ⟨.hbm, 203, rfl⟩
abbrev main_v46 : Ref sig .tc := ⟨.hbm, 204, rfl⟩
abbrev main_c_11 : Ref sig .tc := ⟨.hbm, 205, rfl⟩
abbrev main_v47 : Ref sig .tc := ⟨.hbm, 206, rfl⟩
abbrev main_v48 : Ref sig .tc := ⟨.hbm, 207, rfl⟩
abbrev main_c_12 : Ref sig .tc := ⟨.hbm, 208, rfl⟩
abbrev main_v49 : Ref sig .tc := ⟨.hbm, 209, rfl⟩
abbrev main_v50 : Ref sig .tc := ⟨.hbm, 210, rfl⟩
abbrev main_v51 : Ref sig .tc := ⟨.hbm, 211, rfl⟩
abbrev main_v52 : Ref sig .tc := ⟨.hbm, 212, rfl⟩
abbrev main_v53 : Ref sig .tc := ⟨.hbm, 213, rfl⟩
abbrev main_v54 : Ref sig .tc := ⟨.hbm, 214, rfl⟩
abbrev main_v55 : Ref sig .tc := ⟨.hbm, 215, rfl⟩
abbrev main_v56 : Ref sig .tc := ⟨.hbm, 216, rfl⟩
abbrev main_v57 : Ref sig .tc := ⟨.hbm, 217, rfl⟩
abbrev main_v58 : Ref sig .tc := ⟨.hbm, 218, rfl⟩
abbrev main_v59 : Ref sig .tc := ⟨.hbm, 219, rfl⟩
abbrev main_v60 : Ref sig .tc := ⟨.hbm, 220, rfl⟩
abbrev main_v61 : Ref sig .tc := ⟨.hbm, 221, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![8], ![false]⟩

@[reducible] def k0_t1_loop (i : grid0.Coords) : Scf.Loop 32 :=
  let arg0 : BitVec 32 := BitVec.ofNat 32 (i 0).val
  let c0_i32_44 : BitVec 32 := 0#32
  let v75 : BitVec 1 := Scalar.cmpi .eq arg0 c0_i32_44
  let c1_i32 : BitVec 32 := 1#32
  let c0_i32_45 : BitVec 32 := 0#32
  let v76 : BitVec 32 := Scalar.select v75 c1_i32 c0_i32_45
  let c32_i32 : BitVec 32 := 32#32
  let v78 : BitVec 32 := Scalar.subi c32_i32 v76
  let c1_i32_48 : BitVec 32 := 1#32
  let v80 : BitVec 32 := Scalar.divsi v78 c1_i32_48
  let v81 : BitVec 32 := Scalar.muli v80 c1_i32_48
  let v82 : BitVec 32 := Scalar.addi v76 v81
  let c1_i32_49 : BitVec 32 := 1#32
  ⟨v76, v82, c1_i32_49⟩
def k0_mult1 (i : grid0.Coords) (k0_t1 : Fin (k0_t1_loop i).trips) : BitVec 32 :=
  let arg0 : BitVec 32 := BitVec.ofNat 32 (i 0).val
  let c0_i32_44 : BitVec 32 := 0#32
  let v75 : BitVec 1 := Scalar.cmpi .eq arg0 c0_i32_44
  let c1_i32 : BitVec 32 := 1#32
  let c0_i32_45 : BitVec 32 := 0#32
  let v76 : BitVec 32 := Scalar.select v75 c1_i32 c0_i32_45
  let c1_i32_49 : BitVec 32 := 1#32
  let arg12 : BitVec 32 := Scf.iv v76 c1_i32_49 k0_t1
  let c8_i32 : BitVec 32 := 8#32
  let v91 : BitVec 32 := Scalar.muli arg12 c8_i32
  v91
def k0_off1 (i : grid0.Coords) (k0_t1 : Fin (k0_t1_loop i).trips) : Fin 3 → Nat :=
  let c0_54 : Index := 0#32
  let arg0 : BitVec 32 := BitVec.ofNat 32 (i 0).val
  let c0_i32_44 : BitVec 32 := 0#32
  let v75 : BitVec 1 := Scalar.cmpi .eq arg0 c0_i32_44
  let c1_i32 : BitVec 32 := 1#32
  let c0_i32_45 : BitVec 32 := 0#32
  let v76 : BitVec 32 := Scalar.select v75 c1_i32 c0_i32_45
  let c1_i32_49 : BitVec 32 := 1#32
  let arg12 : BitVec 32 := Scf.iv v76 c1_i32_49 k0_t1
  let c8_i32 : BitVec 32 := 8#32
  let v91 : BitVec 32 := Scalar.muli arg12 c8_i32
  let v92 : BitVec 32 := v91
  let v93 : Index := Scalar.indexCast v92
  let c0_55 : Index := 0#32
  ![0, v93.toNat, 0]
@[reducible] def k0_t2_loop (i : grid0.Coords) : Scf.Loop 32 :=
  let arg0 : BitVec 32 := BitVec.ofNat 32 (i 0).val
  let c0_i32_44 : BitVec 32 := 0#32
  let v75 : BitVec 1 := Scalar.cmpi .eq arg0 c0_i32_44
  let c1_i32 : BitVec 32 := 1#32
  let c0_i32_45 : BitVec 32 := 0#32
  let v76 : BitVec 32 := Scalar.select v75 c1_i32 c0_i32_45
  let c32_i32 : BitVec 32 := 32#32
  let v78 : BitVec 32 := Scalar.subi c32_i32 v76
  let c1_i32_48 : BitVec 32 := 1#32
  let v80 : BitVec 32 := Scalar.divsi v78 c1_i32_48
  let v81 : BitVec 32 := Scalar.muli v80 c1_i32_48
  let v82 : BitVec 32 := Scalar.addi v76 v81
  let v79 : BitVec 32 := Scalar.addi v76 v78
  let c1_i32_50 : BitVec 32 := 1#32
  ⟨v82, v79, c1_i32_50⟩
def k0_mult2 (i : grid0.Coords) (k0_t2 : Fin (k0_t2_loop i).trips) : BitVec 32 :=
  let arg0 : BitVec 32 := BitVec.ofNat 32 (i 0).val
  let c0_i32_44 : BitVec 32 := 0#32
  let v75 : BitVec 1 := Scalar.cmpi .eq arg0 c0_i32_44
  let c1_i32 : BitVec 32 := 1#32
  let c0_i32_45 : BitVec 32 := 0#32
  let v76 : BitVec 32 := Scalar.select v75 c1_i32 c0_i32_45
  let c32_i32 : BitVec 32 := 32#32
  let v78 : BitVec 32 := Scalar.subi c32_i32 v76
  let c1_i32_48 : BitVec 32 := 1#32
  let v80 : BitVec 32 := Scalar.divsi v78 c1_i32_48
  let v81 : BitVec 32 := Scalar.muli v80 c1_i32_48
  let v82 : BitVec 32 := Scalar.addi v76 v81
  let c1_i32_50 : BitVec 32 := 1#32
  let arg12 : BitVec 32 := Scf.iv v82 c1_i32_50 k0_t2
  let c8_i32 : BitVec 32 := 8#32
  let v91 : BitVec 32 := Scalar.muli arg12 c8_i32
  v91
def k0_off2 (i : grid0.Coords) (k0_t2 : Fin (k0_t2_loop i).trips) : Fin 3 → Nat :=
  let c0_54 : Index := 0#32
  let arg0 : BitVec 32 := BitVec.ofNat 32 (i 0).val
  let c0_i32_44 : BitVec 32 := 0#32
  let v75 : BitVec 1 := Scalar.cmpi .eq arg0 c0_i32_44
  let c1_i32 : BitVec 32 := 1#32
  let c0_i32_45 : BitVec 32 := 0#32
  let v76 : BitVec 32 := Scalar.select v75 c1_i32 c0_i32_45
  let c32_i32 : BitVec 32 := 32#32
  let v78 : BitVec 32 := Scalar.subi c32_i32 v76
  let c1_i32_48 : BitVec 32 := 1#32
  let v80 : BitVec 32 := Scalar.divsi v78 c1_i32_48
  let v81 : BitVec 32 := Scalar.muli v80 c1_i32_48
  let v82 : BitVec 32 := Scalar.addi v76 v81
  let c1_i32_50 : BitVec 32 := 1#32
  let arg12 : BitVec 32 := Scf.iv v82 c1_i32_50 k0_t2
  let c8_i32 : BitVec 32 := 8#32
  let v91 : BitVec 32 := Scalar.muli arg12 c8_i32
  let v92 : BitVec 32 := v91
  let v93 : Index := Scalar.indexCast v92
  let c0_55 : Index := 0#32
  ![0, v93.toNat, 0]
def k0_cond3 (i : grid0.Coords) : BitVec 1 :=
  let arg0 : BitVec 32 := BitVec.ofNat 32 (i 0).val
  let c7_i32 : BitVec 32 := 7#32
  let v88 : BitVec 1 := Scalar.cmpi .eq arg0 c7_i32
  let v89 : BitVec 32 := Scalar.extui v88
  let c0_i32_53 : BitVec 32 := 0#32
  let v90 : BitVec 1 := Scalar.cmpi .ne v89 c0_i32_53
  v90

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== KernelIdeal.lean ====
variable {F : FTy → Type} [FloatOps F] [Named F]
def κ : String → Option EReal := fun
  | "big" => some ⊤
  | _ => none
-- ==== ReferenceIdeal.lean ====
abbrev S16x2048x128 : Shape := ⟨3, ![16, 2048, 128]⟩
abbrev S_ : Shape := ⟨0, ![]⟩
abbrev S1x2048x128 : Shape := ⟨3, ![1, 2048, 128]⟩
abbrev S2048x128 : Shape := ⟨2, ![2048, 128]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S128x2048 : Shape := ⟨2, ![128, 2048]⟩
abbrev S2047x2048 : Shape := ⟨2, ![2047, 2048]⟩
abbrev S1 : Shape := ⟨1, ![1]⟩
abbrev S2047 : Shape := ⟨1, ![2047]⟩
abbrev S1x1 : Shape := ⟨2, ![1, 1]⟩

abbrev nBuf : Space → Nat
  | .hbm => 75
  | .vmem => 0
  | .smem => 0
  | _ => 0

abbrev bufTy : (tb : Table) → Fin (tcTables nBuf tb) → BufTy
  | .hbm, ⟨0, _⟩ => ⟨S16x2048x128, .f32⟩
  | .hbm, ⟨1, _⟩ => ⟨S16x2048x128, .f32⟩
  | .hbm, ⟨2, _⟩ => ⟨S16x2048x128, .f32⟩
  | .hbm, ⟨3, _⟩ => ⟨S16x2048x128, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1x2048x128, .f32⟩
  | .hbm, ⟨9, _⟩ => ⟨S2048x128, .f32⟩
  | .hbm, ⟨10, _⟩ => ⟨S1x2048x128, .f32⟩
  | .hbm, ⟨11, _⟩ => ⟨S2048x128, .f32⟩
  | .hbm, ⟨12, _⟩ => ⟨S2048x128, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S2048x128, .f32⟩
  | .hbm, ⟨17, _⟩ => ⟨S_, .f32⟩
  | .hbm, ⟨18, _⟩ => ⟨S2048, .f32⟩
  | .hbm, ⟨19, _⟩ => ⟨S1x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S128x2048, .f32⟩
  | .hbm, ⟨24, _⟩ => ⟨S2048x2048, .f32⟩
  | .hbm, ⟨25, _⟩ => ⟨S_, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S1x2048, .f32⟩
  | .hbm, ⟨34, _⟩ => ⟨S2048, .f32⟩
  | .hbm, ⟨35, _⟩ => ⟨S_, .f32⟩
  | .hbm, ⟨36, _⟩ => ⟨S_, .f32⟩
  | .hbm, ⟨37, _⟩ => ⟨S2048, .f32⟩
  | .hbm, ⟨38, _⟩ => ⟨S2047x2048, .f32⟩
  | .hbm, ⟨39, _⟩ => ⟨S_, .f32⟩
  | .hbm, ⟨40, _⟩ => ⟨S_, .i32⟩
  | .hbm, ⟨41, _⟩ => ⟨S2047x2048, .f32⟩
  | .hbm, ⟨42, _⟩ => ⟨S_, .f32⟩
  | .hbm, ⟨43, _⟩ => ⟨S_, .i32⟩
  | .hbm, ⟨44, _⟩ => ⟨S2048, .f32⟩
  | .hbm, ⟨45, _⟩ => ⟨S_, .i32⟩
  | .hbm, ⟨46, _⟩ => ⟨S_, .i1⟩
  | .hbm, ⟨47, _⟩ => ⟨S_, .i32⟩
  | .hbm, ⟨48, _⟩ => ⟨S1x2048, .f32⟩
  | .hbm, ⟨49, _⟩ => ⟨S2048, .f32⟩
  | .hbm, ⟨50, _⟩ => ⟨S1, .f32⟩
  | .hbm, ⟨51, _⟩ => ⟨S2047, .f32⟩
  | .hbm, ⟨52, _⟩ => ⟨S2048, .f32⟩
  | .hbm, ⟨53, _⟩ => ⟨S2048, .f32⟩
  | .hbm, ⟨54, _⟩ => ⟨S2048, .f32⟩
  | .hbm, ⟨55, _⟩ => ⟨S_, .f32⟩
  | .hbm, ⟨56, _⟩ => ⟨S_, .f32⟩
  | .hbm, ⟨57, _⟩ => ⟨S2048, .f32⟩
  | .hbm, ⟨58, _⟩ => ⟨S2048, .f32⟩
  | .hbm, ⟨59, _⟩ => ⟨S_, .f32⟩
  | .hbm, ⟨60, _⟩ => ⟨S_, .f32⟩
  | .hbm, ⟨61, _⟩ => ⟨S2048, .f32⟩
  | .hbm, ⟨62, _⟩ => ⟨S2048, .f32⟩
  | .hbm, ⟨63, _⟩ => ⟨S_, .i32⟩
  | .hbm, ⟨64, _⟩ => ⟨S_, .i32⟩
  | .hbm, ⟨65, _⟩ => ⟨S1, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S1x1, .f32⟩
  | _, _ => ⟨S16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_call0_call0_cst : Ref sig .tc := ⟨.hbm, 35, rfl⟩
abbrev main_call0_call0_v0 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_c : Ref sig .tc := ⟨.hbm, 40, rfl⟩
abbrev main_v29_0 : Ref sig .tc := ⟨.hbm, 41, rfl⟩
abbrev main_v29_1 : Ref sig .tc := ⟨.hbm, 42, rfl⟩
abbrev main_v29_2 : Ref sig .tc := ⟨.hbm, 43, rfl⟩
abbrev main_v29_3 : Ref sig .tc := ⟨.hbm, 44, rfl⟩
abbrev main_while0c_c_12 : Ref sig .tc := ⟨.hbm, 45, rfl⟩
abbrev main_while0c_v37 : Ref sig .tc := ⟨.hbm, 46, rfl⟩
abbrev main_while0b_call1_c : Ref sig .tc := ⟨.hbm, 47, rfl⟩
abbrev main_while0b_call1_v0 : Ref sig .tc := ⟨.hbm, 48, rfl⟩
abbrev main_while0b_v37 : Ref sig .tc := ⟨.hbm, 49, rfl⟩
abbrev main_while0b_v38 : Ref sig .tc := ⟨.hbm, 50, rfl⟩
abbrev main_while0b_v39 : Ref sig .tc := ⟨.hbm, 51, rfl⟩
abbrev main_while0b_v40 : Ref sig .tc := ⟨.hbm, 52, rfl⟩
abbrev main_while0b_v41 : Ref sig .tc := ⟨.hbm, 53, rfl⟩
abbrev main_while0b_v42 : Ref sig .tc := ⟨.hbm, 54, rfl⟩
abbrev main_while0b_call2_call0_cst : Ref sig .tc := ⟨.hbm, 55, rfl⟩
abbrev main_while0b_call2_call0_v0 : Ref sig .tc := ⟨.hbm, 56, rfl⟩
abbrev main_while0b_v43 : Ref sig .tc := ⟨.hbm, 57, rfl⟩
abbrev main_while0b_v44 : Ref sig .tc := ⟨.hbm, 58, rfl⟩
abbrev main_while0b_call3_cst : Ref sig .tc := ⟨.hbm, 59, rfl⟩
abbrev main_while0b_call3_v0 : Ref sig .tc := ⟨.hbm, 60, rfl⟩
abbrev main_while0b_v45 : Ref sig .tc := ⟨.hbm, 61, rfl⟩
abbrev main_while0b_v46 : Ref sig .tc := ⟨.hbm, 62, rfl⟩
abbrev main_while0b_c_12 : Ref sig .tc := ⟨.hbm, 63, rfl⟩
abbrev main_while0b_v47 : Ref sig .tc := ⟨.hbm, 64, rfl⟩
abbrev main_v30 : Ref sig .tc := ⟨.hbm, 65, rfl⟩
abbrev main_v31 : Ref sig .tc := ⟨.hbm, 66, rfl⟩
abbrev main_cst_6 : Ref sig .tc := ⟨.hbm, 67, rfl⟩
abbrev main_v32 : Ref sig .tc := ⟨.hbm, 68, rfl⟩
abbrev main_cst_7 : Ref sig .tc := ⟨.hbm, 69, rfl⟩
abbrev main_v33 : Ref sig .tc := ⟨.hbm, 70, rfl⟩
abbrev main_cst_8 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩

abbrev nD : Nat := 1
abbrev τ : Topo := Topo.v7x

variable {F : FTy → Type} [FloatOps F]

abbrev main_while0_count : Scf.Loop 32 := ⟨0#32, 2047#32, 1#32⟩
-- ==== Proof.RefRun.lean ====
/-
  The run of the reference: its two arguments end as they began, no counter is left raised, and its one result is the
  operations after the loop applied to the carried row and to the mean absolute error.
-/
module

public import proofs.«01_k».proof.Proof.Gen.ReferenceIdeal.Run
public import Idealize.ShloMosaic.Lib.Quiescent

@[expose] public section

noncomputable section

namespace Cert.ReferenceIdeal.Dtw

open Idealize.ShloMosaic Idealize.ShloMosaic.TcCoe Idealize.ShloMosaic.StableHlo
open Idealize.SL.Sem
open Cert.ReferenceIdeal.Gen Cert.ReferenceIdeal.Value

variable {F : FTy → Type} [FloatOps F]

/-- A buffer that neither the condition nor the body of the loop writes. -/
def Untouched (r : Ref sig .tc) : Prop :=
  r ∉ condOps_W ∧ r ∉ while0Ops0_W ∧ r ∉ while0Ops0_1_W ∧ r ∉ while0Ops0_2_W ∧ r ∉ while0Ops0_3_W ∧ r ∉ while0Ops0_4_W
    ∧ r ∉ while0Ops0_5_W

/-- The loop leaves an untouched buffer as it entered. -/
theorem atK_untouched (m : (ℓ : Loc nD τ sig) → Buf (Elt F) ℓ) (c : Dev nD) (r : Ref sig .tc) (h : Untouched r) :
    ∀ k, atK m k c (Proc.devRef .tc r) = entryContents preI m c (Proc.devRef .tc r)
  | 0 => rfl
  | k + 1 => by
    obtain ⟨h0, h1, h2, h3, h4, h5, h6⟩ := h
    rw [show atK m (k + 1) c = afterL bodyI (after condOps (atK m k c)) from rfl]
    simp only [afterL_cons, afterL_nil]
    rw [after_of_writes_sub while0Ops0_5 _ while0Ops0_5_writes h6, after_of_writes_sub while0Ops0_4 _ while0Ops0_4_writes h5,
      after_of_writes_sub while0Ops0_3 _ while0Ops0_3_writes h4, after_of_writes_sub while0Ops0_2 _ while0Ops0_2_writes h3,
      after_of_writes_sub while0Ops0_1 _ while0Ops0_1_writes h2, after_of_writes_sub while0Ops0 _ while0Ops0_writes h1,
      after_of_writes_sub condOps _ condOps_writes h0]
    exact atK_untouched m c r ⟨h0, h1, h2, h3, h4, h5, h6⟩ k

/-- The buffers the operations after the loop write, in order. -/
abbrev hostOps0_3_W : List (Ref sig .tc) :=
  [main_v30, main_v31, main_cst_6, main_v32, main_cst_7, main_v33, main_cst_8, main_v34, main_v35, main_v36]

theorem hostOps0_3_writes : (hostOps0_3 : List (HloOp τ sig (Elt F))).Forall fun op =>
    op.writes ⊆ (hostOps0_3_W.map (Proc.devRef (τ := τ) .tc)).toFinset :=
  forall_writes_sub_of_map rfl

/-- The contents after the whole program, from the contents at the last condition. -/
theorem final_eq (m : (ℓ : Loc nD τ sig) → Buf (Elt F) ℓ) (c : Dev nD) :
    finalContents condOps preI bodyI postI 2047 m c = after hostOps0_3 (after condOps (atK m 2047 c)) := rfl

/-- A buffer that nothing writes holds at the end what it held at the launch. -/
theorem final_untouched (m : (ℓ : Loc nD τ sig) → Buf (Elt F) ℓ) (c : Dev nD) (r : Ref sig .tc) (h : Untouched r)
    (h0 : r ∉ hostOps0_W) (h1 : r ∉ hostOps0_1_W) (h2 : r ∉ hostOps0_2_W) (h3 : r ∉ hostOps0_3_W) :
    finalContents condOps preI bodyI postI 2047 m c (Proc.devRef .tc r) = m ((c : Thread nD τ).loc r) := by
  rw [final_eq, after_of_writes_sub hostOps0_3 _ hostOps0_3_writes h3, after_of_writes_sub condOps _ condOps_writes h.1,
    atK_untouched m c r h]
  simp only [entryContents, afterL_cons, afterL_nil]
  rw [after_of_writes_sub hostOps0_2 _ hostOps0_2_writes h2, after_of_writes_sub hostOps0_1 _ hostOps0_1_writes h1,
    after_of_writes_sub hostOps0 _ hostOps0_writes h0]

/-- The arguments keep their contents. -/
theorem kept0 (m : (ℓ : Loc nD τ sig) → Buf (Elt F) ℓ) (c : Dev nD) :
    finalContents condOps preI bodyI postI 2047 m c (Proc.devRef .tc main_arg0) = m ((c.tc : Thread nD τ).loc main_arg0) :=
  final_untouched m c main_arg0 (by unfold Untouched; decide +kernel) (by decide +kernel) (by decide +kernel)
    (by decide +kernel) (by decide +kernel)

theorem kept1 (m : (ℓ : Loc nD τ sig) → Buf (Elt F) ℓ) (c : Dev nD) :
    finalContents condOps preI bodyI postI 2047 m c (Proc.devRef .tc main_arg1) = m ((c.tc : Thread nD τ).loc main_arg1) :=
  final_untouched m c main_arg1 (by unfold Untouched; decide +kernel) (by decide +kernel) (by decide +kernel)
    (by decide +kernel) (by decide +kernel)

/-- The reference's frame: both arguments end unchanged and every counter is zero. -/
theorem frame (m : (ℓ : Loc nD τ sig) → Buf (Elt F) ℓ) (ρ : Dev nD → PrngReg) :
    θ_run (defs (F := F)) (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run _ _ _).mono (fun r h => ⟨fun c =>
      ⟨(h c main_arg0 rfl).trans (kept0 m c), (h c main_arg1 rfl).trans (kept1 m c)⟩,
      sem_eq_zero_of_no_sems rfl r.2⟩) (run_fold m ρ)

end Cert.ReferenceIdeal.Dtw

end
-- ==== Proof.HostVals.lean ====
/-
  What the kernel's host lines leave in the arrays that its region reads: the permuted rows of the second argument,
  and the three matrices of zeros and ones, each read at an index.
-/
module

public import proofs.«01_k».proof.Proof.Gen.KernelIdeal.Frame.Runs
public import Idealize.ShloMosaic.Lib.StableHlo.ReadAt
public import Idealize.ShloMosaic.Lib.ValueIdxCore
public import Idealize.ShloMosaic.Lib.WordCmp
public import Idealize.ShloMosaic.Lib.Routing.Words

@[expose] public section

set_option maxRecDepth 16384

noncomputable section

namespace Cert.KernelIdeal.Dtw

open Idealize.ShloMosaic Idealize.ShloMosaic.TcCoe Idealize.SL.Sem
open Cert.KernelIdeal Cert.KernelIdeal.Gen

/-! ## Quotient and remainder of words -/

/-- The divisor that the remainder of words uses: one in place of zero. -/
def divisor (b : BitVec 32) : BitVec 32 := Scalar.select (IntOp.cmpi .eq b 0#32) 1#32 b

/-- The remainder of two words that has the divisor's sign. -/
def remWord (x b : BitVec 32) : BitVec 32 :=
  Scalar.select
    (IntOp.andi
      (IntOp.cmpi .ne (IntOp.cmpi .slt (IntOp.remsi .host x (divisor b)) 0#32) (IntOp.cmpi .slt (divisor b) 0#32))
      (IntOp.cmpi .ne (IntOp.remsi .host x (divisor b)) 0#32))
    (IntOp.addi (IntOp.remsi .host x (divisor b)) (divisor b))
    (IntOp.remsi .host x (divisor b))

/-- The sign of a word. -/
def signWord (x : BitVec 32) : BitVec 32 := if x = 0 then 0 else if x.msb = true then -1 else 1

/-- The quotient of two words, rounded down. -/
def divWord (x b : BitVec 32) : BitVec 32 :=
  Scalar.select
    (IntOp.andi (IntOp.cmpi .ne (signWord x) (signWord b)) (IntOp.cmpi .ne (IntOp.remsi .host x b) 0#32))
    (IntOp.subi (IntOp.divsi .host x b) 1#32)
    (IntOp.divsi .host x b)

theorem divisor_ofNat {b : ℕ} (h0 : 0 < b) (hb : b < 2 ^ 31) : divisor (BitVec.ofNat 32 b) = BitVec.ofNat 32 b := by
  unfold divisor
  rw [show (0#32 : BitVec 32) = BitVec.ofNat 32 0 from rfl, WordCmp.cmpi_eq_ofNat (by omega) (by omega),
    WordCmp.select_ofBool]
  simp [h0.ne']

theorem remWord_ofNat {a b : ℕ} (ha : a < 2 ^ 31) (h0 : 0 < b) (hb : b < 2 ^ 31) :
    remWord (BitVec.ofNat 32 a) (BitVec.ofNat 32 b) = BitVec.ofNat 32 (a % b) := by
  unfold remWord
  have hm : a % b < b := Nat.mod_lt _ h0
  rw [divisor_ofNat h0 hb, Routing.remsi_word .host ha h0 hb, show (0#32 : BitVec 32) = BitVec.ofNat 32 0 from rfl,
    WordCmp.cmpi_slt_ofNat (by omega) (by omega), WordCmp.cmpi_slt_ofNat (by omega) (by omega)]
  simp [IntOp.cmpi, IntOp.andi, Scalar.select]

theorem signWord_ofNat {a : ℕ} (ha : a < 2 ^ 31) : signWord (BitVec.ofNat 32 a) = if a = 0 then 0 else 1 := by
  unfold signWord
  have h : (BitVec.ofNat 32 a = 0) ↔ a = 0 := WordCmp.ofNat_eq_ofNat_iff (b := 0) (by omega) (by omega)
  have h' : (BitVec.ofNat 32 a).msb = false := by
    rw [BitVec.msb_eq_decide]; simp; omega
  rw [h', if_neg Bool.false_ne_true]
  exact if_congr h rfl rfl

theorem divWord_ofNat {a b : ℕ} (ha : a < 2 ^ 31) (h0 : 0 < b) (hb : b < 2 ^ 31) :
    divWord (BitVec.ofNat 32 a) (BitVec.ofNat 32 b) = BitVec.ofNat 32 (a / b) := by
  unfold divWord
  rw [Routing.remsi_word .host ha h0 hb, Routing.divsi_word .host ha h0 hb, signWord_ofNat ha, signWord_ofNat hb,
    if_neg h0.ne']
  by_cases h : a = 0
  · subst h; simp [IntOp.cmpi, IntOp.andi, Scalar.select]
  · simp [h, IntOp.cmpi, IntOp.andi, Scalar.select]

/-! ## The arrays -/

variable {F : FTy → Type} [FloatOps F] [Named F]
variable (m : (ℓ : Loc nD τ sig) → Buf (Elt F) ℓ)

/-- The order of the second argument's rows: row `q` is row `(q % 256) * 8 + q / 256` of it. -/
theorem order_at (c : Dev nD) (q : Fin 2048) :
    (V m c main_v8 : IVec S2048 32) (ValueIdx.ix1 q) = BitVec.ofNat 32 ((q.val % 256) * 8 + q.val / 256) := by
  unfold V
  after_reads_at
  show IntOp.addi (IntOp.muli (remWord (BitVec.ofNat 32 q.val) (BitVec.ofNat 32 256)) (BitVec.ofNat 32 8))
    (divWord (BitVec.ofNat 32 q.val) (BitVec.ofNat 32 256)) = _
  rw [remWord_ofNat (by omega) (by omega) (by omega), divWord_ofNat (by omega) (by omega) (by omega),
    WordCmp.muli_ofNat, WordCmp.addi_ofNat]

/-- The order of the lower matrix's columns. -/
theorem order64_at (c : Dev nD) (q : Fin 64) :
    (V m c main_v23 : IVec S64 32) (ValueIdx.ix1 q) = BitVec.ofNat 32 ((q.val % 8) * 8 + q.val / 8) := by
  unfold V
  after_reads_at
  show IntOp.addi (IntOp.muli (remWord (BitVec.ofNat 32 q.val) (BitVec.ofNat 32 8)) (BitVec.ofNat 32 8))
    (divWord (BitVec.ofNat 32 q.val) (BitVec.ofNat 32 8)) = _
  rw [remWord_ofNat (by omega) (by omega) (by omega), divWord_ofNat (by omega) (by omega) (by omega),
    WordCmp.muli_ofNat, WordCmp.addi_ofNat]

/-- The matrix that reorders: one where the column is the row's place. -/
theorem perm_at (c : Dev nD) (a k : Fin 64) :
    (V m c main_v30 : FVec F S64x64 .f32) (ValueIdx.ix2 a k)
      = FloatOps.uitofp .f32 (BitVec.ofBool (decide ((a.val % 8) * 8 + a.val / 8 = k.val))) := by
  unfold V
  after_reads_at
  show FloatOps.uitofp .f32 (IntOp.cmpi .eq
    (IntOp.addi (IntOp.muli (remWord (BitVec.ofNat 32 a.val) (BitVec.ofNat 32 8)) (BitVec.ofNat 32 8))
      (divWord (BitVec.ofNat 32 a.val) (BitVec.ofNat 32 8))) (BitVec.ofNat 32 k.val)) = _
  rw [remWord_ofNat (by omega) (by omega) (by omega), divWord_ofNat (by omega) (by omega) (by omega),
    WordCmp.muli_ofNat, WordCmp.addi_ofNat, WordCmp.cmpi_eq_ofNat (by omega) (by omega)]

/-- The matrix that adds the lanes before each. -/
theorem uex_at (c : Dev nD) (a k : Fin 256) :
    (V m c main_v60 : FVec F S256x256 .f32) (ValueIdx.ix2 a k)
      = FloatOps.uitofp .f32 (BitVec.ofBool (decide (a.val < k.val))) := by
  unfold V
  after_reads_at
  show FloatOps.uitofp .f32 (IntOp.cmpi .slt (BitVec.ofNat 32 a.val) (BitVec.ofNat 32 k.val)) = _
  rw [WordCmp.cmpi_slt_ofNat (by omega) (by omega)]

/-- The matrix that adds, within a row, the entries up to each, before its columns are reordered. -/
theorem low_at (c : Dev nD) (a k : Fin 64) :
    (V m c main_v46 : FVec F S64x64 .f32) (ValueIdx.ix2 a k)
      = FloatOps.uitofp .f32 (BitVec.ofBool (decide (a.val / 8 = k.val / 8 ∧ k.val % 8 ≤ a.val % 8))) := by
  unfold V
  after_reads_at
  show FloatOps.uitofp .f32 (IntOp.andi
    (IntOp.cmpi .eq (divWord (BitVec.ofNat 32 a.val) (BitVec.ofNat 32 8)) (divWord (BitVec.ofNat 32 k.val) (BitVec.ofNat 32 8)))
    (IntOp.cmpi .sle (remWord (BitVec.ofNat 32 k.val) (BitVec.ofNat 32 8)) (remWord (BitVec.ofNat 32 a.val) (BitVec.ofNat 32 8)))) = _
  rw [remWord_ofNat (by omega) (by omega) (by omega), divWord_ofNat (by omega) (by omega) (by omega),
    remWord_ofNat (by omega) (by omega) (by omega), divWord_ofNat (by omega) (by omega) (by omega),
    WordCmp.cmpi_eq_ofNat (by omega) (by omega), WordCmp.cmpi_sle_ofNat (by omega) (by omega), WordCmp.andi_ofBool,
    Bool.decide_and]

/-! ## The two gathers -/

/-- Rows gathered one index per row. -/
theorem gather_rows_at {α : Type} (x : S2048x128.Idx → α) (idx : IVec S2048x1 32) (q : Fin 2048) (f : Fin 128) :
    Host.gather gather_S2048x128_S2048x1_S2048x128_1_0_n_n_0_1_1128 x idx (ValueIdx.ix2 q f)
      = x (ValueIdx.ix2 ⟨min (idx (ValueIdx.ix2 q 0)).toInt.toNat 2047, by omega⟩ f) := by
  unfold Host.gather
  congr 1
  funext a
  refine Fin.ext ?_
  match a with
  | ⟨0, _⟩ =>
    refine congrArg (fun j : S2048x1.Idx => min (idx j).toInt.toNat 2047) (?_ : _ = ValueIdx.ix2 q 0)
    funext b
    match b with
    | ⟨0, _⟩ => rfl
    | ⟨1, _⟩ => rfl
  | ⟨1, _⟩ =>
    show 0 + 0 + f.val = f.val
    omega

/-- Columns gathered one index per column. -/
theorem gather_cols_at {α : Type} (x : S64x64.Idx → α) (idx : IVec S64x1 32) (a k : Fin 64) :
    Host.gather gather_S64x64_S64x1_S64x64_0_1_n_n_1_1_641 x idx (ValueIdx.ix2 a k)
      = x (ValueIdx.ix2 a ⟨min (idx (ValueIdx.ix2 k 0)).toInt.toNat 63, by omega⟩) := by
  unfold Host.gather
  congr 1
  funext b
  refine Fin.ext ?_
  match b with
  | ⟨0, _⟩ =>
    show 0 + 0 + a.val = a.val
    omega
  | ⟨1, _⟩ =>
    refine congrArg (fun j : S64x1.Idx => min (idx j).toInt.toNat 63) (?_ : _ = ValueIdx.ix2 k 0)
    funext b
    match b with
    | ⟨0, _⟩ => rfl
    | ⟨1, _⟩ => rfl

theorem rows_read (c : Dev nD) : (V m c main_v17 : FVec F S2048x128 .f32)
    = Host.gather gather_S2048x128_S2048x1_S2048x128_1_0_n_n_0_1_1128 (V m c main_v10 : FVec F S2048x128 .f32)
        (V m c main_v16 : IVec S2048x1 32) := by
  unfold V
  after_reads_simp

theorem cols_read (c : Dev nD) : (V m c main_v53 : FVec F S64x64 .f32)
    = Host.gather gather_S64x64_S64x1_S64x64_0_1_n_n_1_1_641 (V m c main_v46 : FVec F S64x64 .f32)
        (V m c main_v52 : IVec S64x1 32) := by
  unfold V
  after_reads_simp

theorem rowIdx_at (c : Dev nD) (q : Fin 2048) : (V m c main_v16 : IVec S2048x1 32) (ValueIdx.ix2 q 0)
    = Scalar.select (IntOp.cmpi .slt ((V m c main_v8 : IVec S2048 32) (ValueIdx.ix1 q)) 0#32)
        (IntOp.addi ((V m c main_v8 : IVec S2048 32) (ValueIdx.ix1 q)) 2048#32)
        ((V m c main_v8 : IVec S2048 32) (ValueIdx.ix1 q)) := by
  unfold V
  after_reads_simp
  rfl

theorem colIdx_at (c : Dev nD) (q : Fin 64) : (V m c main_v52 : IVec S64x1 32) (ValueIdx.ix2 q 0)
    = Scalar.select (IntOp.cmpi .slt ((V m c main_v23 : IVec S64 32) (ValueIdx.ix1 q)) 0#32)
        (IntOp.addi ((V m c main_v23 : IVec S64 32) (ValueIdx.ix1 q)) 64#32)
        ((V m c main_v23 : IVec S64 32) (ValueIdx.ix1 q)) := by
  unfold V
  after_reads_simp
  rfl

/-- The first argument's batch zero. -/
theorem x_at (c : Dev nD) (q : Fin 2048) (f : Fin 128) : (V m c main_v1 : FVec F S2048x128 .f32) (ValueIdx.ix2 q f)
    = (m ((c : Thread nD τ).loc main_arg0) : FVec F S16x2048x128 .f32) (ValueIdx.ix3 0 q f) := by
  unfold V
  after_reads_at
  refine congrArg (m ((c : Thread nD τ).loc main_arg0) : FVec F S16x2048x128 .f32) ?_
  funext b
  match b with
  | ⟨0, _⟩ => rfl
  | ⟨1, _⟩ => rfl
  | ⟨2, _⟩ => rfl

/-- The second argument's batch zero. -/
theorem y_at (c : Dev nD) (q : Fin 2048) (f : Fin 128) : (V m c main_v10 : FVec F S2048x128 .f32) (ValueIdx.ix2 q f)
    = (m ((c : Thread nD τ).loc main_arg1) : FVec F S16x2048x128 .f32) (ValueIdx.ix3 0 q f) := by
  unfold V
  after_reads_at
  refine congrArg (m ((c : Thread nD τ).loc main_arg1) : FVec F S16x2048x128 .f32) ?_
  funext b
  match b with
  | ⟨0, _⟩ => rfl
  | ⟨1, _⟩ => rfl
  | ⟨2, _⟩ => rfl

/-- A word below half its range is its own start index. -/
theorem start_word {n N : ℕ} (hn : n < N) (hN : N ≤ 2 ^ 31) (w : BitVec 32) :
    (Scalar.select (IntOp.cmpi .slt (BitVec.ofNat 32 n) 0#32) w (BitVec.ofNat 32 n)).toInt.toNat = n := by
  rw [show (0#32 : BitVec 32) = BitVec.ofNat 32 0 from rfl, WordCmp.cmpi_slt_ofNat (by omega) (by omega),
    WordCmp.select_ofBool]
  simp only [Nat.not_lt_zero, decide_false, Bool.false_eq_true, if_false]
  rw [WordCmp.toInt_ofNat_of_lt (by omega)]
  rfl

/-- Rows gathered at known row numbers. -/
theorem gather_rows_of {α : Type} (x : S2048x128.Idx → α) (idx : IVec S2048x1 32) (q : Fin 2048) (f : Fin 128) (n : ℕ)
    (hn : n < 2048) (h : (idx (ValueIdx.ix2 q 0)).toInt.toNat = n) :
    Host.gather gather_S2048x128_S2048x1_S2048x128_1_0_n_n_0_1_1128 x idx (ValueIdx.ix2 q f)
      = x (ValueIdx.ix2 ⟨n, hn⟩ f) := by
  subst h
  rw [gather_rows_at]
  exact congrArg (fun a => x (ValueIdx.ix2 a f)) (Fin.ext (Nat.min_eq_left (by omega)))

/-- Columns gathered at known column numbers. -/
theorem gather_cols_of {α : Type} (x : S64x64.Idx → α) (idx : IVec S64x1 32) (a k : Fin 64) (n : ℕ)
    (hn : n < 64) (h : (idx (ValueIdx.ix2 k 0)).toInt.toNat = n) :
    Host.gather gather_S64x64_S64x1_S64x64_0_1_n_n_1_1_641 x idx (ValueIdx.ix2 a k)
      = x (ValueIdx.ix2 a ⟨n, hn⟩) := by
  subst h
  rw [gather_cols_at]
  exact congrArg (fun b => x (ValueIdx.ix2 a b)) (Fin.ext (Nat.min_eq_left (by omega)))

theorem rowStart (c : Dev nD) (q : Fin 2048) :
    ((V m c main_v16 : IVec S2048x1 32) (ValueIdx.ix2 q 0)).toInt.toNat = (q.val % 256) * 8 + q.val / 256 := by
  have e := rowIdx_at m c q
  rw [order_at m c q] at e
  exact (congrArg (fun w : BitVec 32 => w.toInt.toNat) e).trans (start_word (N := 2048) (by omega) (by omega) _)

theorem colStart (c : Dev nD) (q : Fin 64) :
    ((V m c main_v52 : IVec S64x1 32) (ValueIdx.ix2 q 0)).toInt.toNat = (q.val % 8) * 8 + q.val / 8 := by
  have e := colIdx_at m c q
  rw [order64_at m c q] at e
  exact (congrArg (fun w : BitVec 32 => w.toInt.toNat) e).trans (start_word (N := 64) (by omega) (by omega) _)

/-- The second argument's batch zero, its rows reordered. -/
theorem rows_at (c : Dev nD) (q : Fin 2048) (f : Fin 128) : (V m c main_v17 : FVec F S2048x128 .f32) (ValueIdx.ix2 q f)
    = (m ((c : Thread nD τ).loc main_arg1) : FVec F S16x2048x128 .f32)
        (ValueIdx.ix3 0 ⟨(q.val % 256) * 8 + q.val / 256, by omega⟩ f) :=
  (congrFun (rows_read m c) (ValueIdx.ix2 q f)).trans
    ((gather_rows_of _ _ q f _ (by omega) (rowStart m c q)).trans (y_at m c _ f))

/-- The matrix that adds, within a row, the entries up to each. -/
theorem low_cols_at (c : Dev nD) (a k : Fin 64) :
    (V m c main_v53 : FVec F S64x64 .f32) (ValueIdx.ix2 a k)
      = FloatOps.uitofp .f32 (BitVec.ofBool (decide (k.val % 8 = a.val / 8 ∧ k.val / 8 ≤ a.val % 8))) := by
  have e : (a.val / 8 = ((k.val % 8) * 8 + k.val / 8) / 8 ∧ ((k.val % 8) * 8 + k.val / 8) % 8 ≤ a.val % 8)
      ↔ (k.val % 8 = a.val / 8 ∧ k.val / 8 ≤ a.val % 8) := by omega
  refine (congrFun (cols_read m c) (ValueIdx.ix2 a k)).trans
    ((gather_cols_of _ _ a k _ (by omega) (colStart m c k)).trans ((low_at m c a _).trans ?_))
  exact congrArg (fun b => FloatOps.uitofp .f32 (BitVec.ofBool b)) (decide_eq_decide.mpr e)
-- ==== Proof.Windows.lean ====
/-
  The blocks that a grid point reads, element by element, as elements of the two arguments.
-/
module

public import proofs.«01_k».proof.Proof.HostVals
public import Idealize.ShloMosaic.Lib.Pipeline.ValueKit
public import Idealize.ShloMosaic.Lib.Claim

@[expose] public section

set_option maxRecDepth 16384

noncomputable section

namespace Cert.KernelIdeal.Dtw

open Idealize.ShloMosaic Idealize.ShloMosaic.TcCoe Idealize.SL.Sem
open Cert.KernelIdeal Cert.KernelIdeal.Gen

variable {F : FTy → Type} [FloatOps F] [Named F]
variable (m : (ℓ : Loc nD τ sig) → Buf (Elt F) ℓ)

theorem index0 : ∀ t : Fin cfg0.N, win0_0.index t = ![t.val, 0, 0] := by decide +kernel
theorem index1 : ∀ t : Fin cfg0.N, win0_1.index t = ![t.val, 0, 0] := by decide +kernel
theorem index2 : ∀ t : Fin cfg0.N, win0_2.index t = ![t.val, 0] := by decide +kernel
theorem index3 : ∀ t : Fin cfg0.N, win0_3.index t = ![0, 0] := by decide +kernel
theorem index4 : ∀ t : Fin cfg0.N, win0_4.index t = ![0, 0] := by decide +kernel
theorem index5 : ∀ t : Fin cfg0.N, win0_5.index t = ![0, 0] := by decide +kernel
theorem index6 : ∀ t : Fin cfg0.N, win0_6.index t = ![0, 0] := by decide +kernel

theorem lt8 (t : Fin cfg0.N) : t.val < 8 := lt_of_lt_of_eq t.isLt N_0

/-- The first argument's two batches of the point. -/
theorem block0_at (c : Dev nD) (t : Fin cfg0.N) (b : Fin 2) (q : Fin 2048) (f : Fin 128) :
    (iblk m c 0 t : FVec F S2x2048x128 .f32) (ValueIdx.ix3 b q f)
      = (m ((c : Thread nD τ).loc main_arg0) : FVec F S16x2048x128 .f32)
          (ValueIdx.ix3 ⟨2 * t.val + b.val, by have := lt8 t; omega⟩ q f) := by
  blk_ext [iblk, V, index0 t]
  show t.val * 2 + b.val = _
  omega

theorem block1_at (c : Dev nD) (t : Fin cfg0.N) (b : Fin 2) (q : Fin 2048) (f : Fin 128) :
    (iblk m c 1 t : FVec F S2x2048x128 .f32) (ValueIdx.ix3 b q f)
      = (m ((c : Thread nD τ).loc main_arg1) : FVec F S16x2048x128 .f32)
          (ValueIdx.ix3 ⟨2 * t.val + b.val, by have := lt8 t; omega⟩ q f) := by
  blk_ext [iblk, V, index1 t]
  show t.val * 2 + b.val = _
  omega

theorem block2_at (c : Dev nD) (t : Fin cfg0.N) (r : Fin 256) (f : Fin 128) :
    (iblk m c 2 t : FVec F S256x128 .f32) (ValueIdx.ix2 r f)
      = (V m c main_v1 : FVec F S2048x128 .f32) (ValueIdx.ix2 ⟨256 * t.val + r.val, by have := lt8 t; omega⟩ f) := by
  unfold iblk
  blk_ext [index2 t]
  show t.val * 256 + r.val = _
  omega

theorem block3_at (c : Dev nD) (t : Fin cfg0.N) (q : Fin 2048) (f : Fin 128) :
    (iblk m c 3 t : FVec F S2048x128 .f32) (ValueIdx.ix2 q f) = (V m c main_v17 : FVec F S2048x128 .f32) (ValueIdx.ix2 q f) := by
  unfold iblk
  blk_ext [index3 t]

theorem block4_at (c : Dev nD) (t : Fin cfg0.N) (a k : Fin 64) :
    (iblk m c 4 t : FVec F S64x64 .f32) (ValueIdx.ix2 a k) = (V m c main_v30 : FVec F S64x64 .f32) (ValueIdx.ix2 a k) := by
  unfold iblk
  blk_ext [index4 t]

theorem block5_at (c : Dev nD) (t : Fin cfg0.N) (a k : Fin 64) :
    (iblk m c 5 t : FVec F S64x64 .f32) (ValueIdx.ix2 a k) = (V m c main_v53 : FVec F S64x64 .f32) (ValueIdx.ix2 a k) := by
  unfold iblk
  blk_ext [index5 t]

theorem block6_at (c : Dev nD) (t : Fin cfg0.N) (a k : Fin 256) :
    (iblk m c 6 t : FVec F S256x256 .f32) (ValueIdx.ix2 a k) = (V m c main_v60 : FVec F S256x256 .f32) (ValueIdx.ix2 a k) := by
  unfold iblk
  blk_ext [index6 t]
-- ==== Proof.Tile.lean ====
/-
  The kernel's arithmetic on one 8 × 256 tile, in its own operations: the shifts, the running minimum, one row of the
  dynamic program, and the eight rows and their prefix sums that one 8 × 8 × 256 block of distances yields.
-/
module

public import proofs.«01_k».proof.Proof.Gen.KernelIdeal
public import Idealize.ShloMosaic.Lib.ValueIdxCore

@[expose] public section

noncomputable section

namespace Cert.KernelIdeal.Dtw

open Idealize.ShloMosaic Idealize.ShloMosaic.TcCoe Idealize.ShloMosaic.ValueIdx
open Cert.KernelIdeal Cert.KernelIdeal.Facts₀ Cert.KernelIdeal.Facts

variable {F : FTy → Type} [FloatOps F] [Named F]

/-- The named constant, at every place of a shape. -/
def bigs (s : Shape) : FVec F s .f32 := broadcast s (Named.named κ "big" 0x7F7FFFFF#32)

/-- A tile moved `k` sublanes down, the named constant coming in at the top. -/
def sshift (k : BitVec 32) (v : FVec F S8x256 .f32) : FVec F S8x256 .f32 :=
  select (cmpi .slt (iota .tc S8x256 32 [0] iota_S8x256_d0_w32) (broadcast S8x256 k)) (bigs S8x256)
    (dynamicRotate 0 k none v rotates_S8x256_d0)

/-- A row of lanes moved `k` lanes to the right, the named constant coming in on the left. -/
def lshift (k : BitVec 32) (t : FVec F S1x256 .f32) : FVec F S1x256 .f32 :=
  select (cmpi .slt (iota .tc S1x256 32 [1] iota_S1x256_d1_w32) (broadcast S1x256 k)) (bigs S1x256)
    (dynamicRotate 1 k none t rotates_S1x256_d1)

/-- The last sublane of a tile. -/
def lastSub (v : FVec F S8x256 .f32) : FVec F S1x256 .f32 := extractStridedSlice S1x256 ![7, 0] v slices_S8x256_o7_0_S1x256

/-- One lane row at every sublane. -/
def spread (t : FVec F S1x256 .f32) : FVec F S8x256 .f32 := broadcastTo S8x256 t broadcasts_S1x256_S8x256

/-- The minimum of sixteen lane rows, in pairs. -/
def min16 (a b c d e f g h i j k l m n o p : FVec F S1x256 .f32) : FVec F S1x256 .f32 :=
  minimumf
    (minimumf (minimumf (minimumf a b) (minimumf c d)) (minimumf (minimumf e f) (minimumf g h)))
    (minimumf (minimumf (minimumf i j) (minimumf k l)) (minimumf (minimumf m n) (minimumf o p)))

/-- The minimum over the sixteen lanes to the left. -/
def near (t : FVec F S1x256 .f32) : FVec F S1x256 .f32 :=
  min16 (lshift 1#32 t) (lshift 2#32 t) (lshift 3#32 t) (lshift 4#32 t) (lshift 5#32 t) (lshift 6#32 t) (lshift 7#32 t)
    (lshift 8#32 t) (lshift 9#32 t) (lshift 10#32 t) (lshift 11#32 t) (lshift 12#32 t) (lshift 13#32 t) (lshift 14#32 t)
    (lshift 15#32 t) (lshift 16#32 t)

/-- The minimum of a lane row and its fifteen shifts by multiples of sixteen. -/
def far (t : FVec F S1x256 .f32) : FVec F S1x256 .f32 :=
  min16 t (lshift 16#32 t) (lshift 32#32 t) (lshift 48#32 t) (lshift 64#32 t) (lshift 80#32 t) (lshift 96#32 t)
    (lshift 112#32 t) (lshift 128#32 t) (lshift 144#32 t) (lshift 160#32 t) (lshift 176#32 t) (lshift 192#32 t)
    (lshift 208#32 t) (lshift 224#32 t) (lshift 240#32 t)

/-- The running minimum down the sublanes of each lane. -/
def colMin (v : FVec F S8x256 .f32) : FVec F S8x256 .f32 :=
  let v1 := minimumf v (sshift 1#32 v)
  let v2 := minimumf v1 (sshift 2#32 v1)
  minimumf v2 (sshift 4#32 v2)

/-- The running minimum of a tile in logical order, finished from the one down the sublanes. -/
def acrossMin (v : FVec F S8x256 .f32) : FVec F S8x256 .f32 := minimumf v (spread (far (near (lastSub v))))

/-- The smaller of the tile's entry and the one before it in logical order. -/
def pairMin (prev : FVec F S8x256 .f32) : FVec F S8x256 .f32 :=
  let m1 := minimumf prev (sshift 1#32 prev)
  select (cmpi .eq (iota .tc S8x256 32 [0] iota_S8x256_d0_w32) (broadcast S8x256 0#32))
    (minimumf m1 (spread (lshift 1#32 (lastSub prev)))) m1

/-- The next row of the dynamic program, from the last one, the distances of this row and their prefix sums. -/
def rowUp (drow c prev : FVec F S8x256 .f32) : FVec F S8x256 .f32 :=
  addf c (acrossMin (colMin (subf (addf drow (pairMin prev)) c)))

/-- The 64 × 64 (or 256 × 256) operand, with the shape cast that the kernel keeps. -/
def blockRows (v67 : FVec F S64x64 .f32) (blk : FVec F S8x8x256 .f32) : FVec F S64x256 .f32 :=
  matmul dot_S64x64_S64x256_S64x256_1_0_0_1_n_n (some .fp32) v67 (shapeCast S64x256 blk shapeCasts_S8x8x256_S64x256)
    (constant S64x256 .f32 0x00000000#32)

/-- The last sublane of each of the eight rows, one below the other. -/
def tails (w : FVec F S64x256 .f32) : FVec F S8x256 .f32 :=
  concatenate S8x256 0
    [⟨S1x256, extractStridedSlice S1x256 ![7, 0] w slices_S64x256_o7_0_S1x256⟩,
     ⟨S1x256, extractStridedSlice S1x256 ![15, 0] w slices_S64x256_o15_0_S1x256⟩,
     ⟨S1x256, extractStridedSlice S1x256 ![23, 0] w slices_S64x256_o23_0_S1x256⟩,
     ⟨S1x256, extractStridedSlice S1x256 ![31, 0] w slices_S64x256_o31_0_S1x256⟩,
     ⟨S1x256, extractStridedSlice S1x256 ![39, 0] w slices_S64x256_o39_0_S1x256⟩,
     ⟨S1x256, extractStridedSlice S1x256 ![47, 0] w slices_S64x256_o47_0_S1x256⟩,
     ⟨S1x256, extractStridedSlice S1x256 ![55, 0] w slices_S64x256_o55_0_S1x256⟩,
     ⟨S1x256, extractStridedSlice S1x256 ![63, 0] w slices_S64x256_o63_0_S1x256⟩]
    concatenates_S1x256_S1x256_S1x256_S1x256_S1x256_S1x256_S1x256_S1x256_S8x256_d0

/-- The sums over the lanes before each lane, of the eight rows' last sublanes. -/
def tailSums (w : FVec F S64x256 .f32) (v71 : FVec F S256x256 .f32) : FVec F S8x256 .f32 :=
  matmul dot_S8x256_S256x256_S8x256_1_0_0_1_n_n (some .fp32) (tails w) v71 (constant S8x256 .f32 0x00000000#32)

/-- A row's prefix sums: down the sublanes of its lane, plus the lanes before. -/
def withTail (w : FVec F S8x256 .f32) (t : FVec F S1x256 .f32) : FVec F S8x256 .f32 := addf w (spread t)

/-- The prefix sums of the block's first row. -/
def firstPrefix (w : FVec F S64x256 .f32) (e : FVec F S8x256 .f32) : FVec F S8x256 .f32 :=
  withTail (extractStridedSlice S8x256 ![0, 0] w slices_S64x256_o0_0_S8x256)
    (extractStridedSlice S1x256 ![0, 0] e slices_S8x256_o0_0_S1x256)

/-- The block's rows after its first one, over the distances `v`, the in-lane prefix sums `w` and the lane sums `e`. -/
def rows7 (v w : FVec F S64x256 .f32) (e p0 : FVec F S8x256 .f32) : FVec F S8x256 .f32 :=
  let p1 := rowUp (extractStridedSlice S8x256 ![8, 0] v slices_S64x256_o8_0_S8x256)
    (withTail (extractStridedSlice S8x256 ![8, 0] w slices_S64x256_o8_0_S8x256) (extractStridedSlice S1x256 ![1, 0] e slices_S8x256_o1_0_S1x256)) p0
  let p2 := rowUp (extractStridedSlice S8x256 ![16, 0] v slices_S64x256_o16_0_S8x256)
    (withTail (extractStridedSlice S8x256 ![16, 0] w slices_S64x256_o16_0_S8x256) (extractStridedSlice S1x256 ![2, 0] e slices_S8x256_o2_0_S1x256)) p1
  let p3 := rowUp (extractStridedSlice S8x256 ![24, 0] v slices_S64x256_o24_0_S8x256)
    (withTail (extractStridedSlice S8x256 ![24, 0] w slices_S64x256_o24_0_S8x256) (extractStridedSlice S1x256 ![3, 0] e slices_S8x256_o3_0_S1x256)) p2
  let p4 := rowUp (extractStridedSlice S8x256 ![32, 0] v slices_S64x256_o32_0_S8x256)
    (withTail (extractStridedSlice S8x256 ![32, 0] w slices_S64x256_o32_0_S8x256) (extractStridedSlice S1x256 ![4, 0] e slices_S8x256_o4_0_S1x256)) p3
  let p5 := rowUp (extractStridedSlice S8x256 ![40, 0] v slices_S64x256_o40_0_S8x256)
    (withTail (extractStridedSlice S8x256 ![40, 0] w slices_S64x256_o40_0_S8x256) (extractStridedSlice S1x256 ![5, 0] e slices_S8x256_o5_0_S1x256)) p4
  let p6 := rowUp (extractStridedSlice S8x256 ![48, 0] v slices_S64x256_o48_0_S8x256)
    (withTail (extractStridedSlice S8x256 ![48, 0] w slices_S64x256_o48_0_S8x256) (extractStridedSlice S1x256 ![6, 0] e slices_S8x256_o6_0_S1x256)) p5
  rowUp (extractStridedSlice S8x256 ![56, 0] v slices_S64x256_o56_0_S8x256)
    (withTail (extractStridedSlice S8x256 ![56, 0] w slices_S64x256_o56_0_S8x256) (extractStridedSlice S1x256 ![7, 0] e slices_S8x256_o7_0_S1x256)) p6

/-- Eight rows of the dynamic program from the row before. -/
def rows8 (v w : FVec F S64x256 .f32) (e prev : FVec F S8x256 .f32) : FVec F S8x256 .f32 :=
  rows7 v w e (rowUp (extractStridedSlice S8x256 ![0, 0] v slices_S64x256_o0_0_S8x256) (firstPrefix w e) prev)

/-- One block of the sweep: eight rows of the dynamic program from one 8 × 8 × 256 block of distances. -/
def block8 (v67 v69 : FVec F S64x64 .f32) (v71 : FVec F S256x256 .f32) (blk : FVec F S8x8x256 .f32)
    (prev : FVec F S8x256 .f32) : FVec F S8x256 .f32 :=
  rows8 (blockRows v67 blk) (blockRows v69 blk) (tailSums (blockRows v69 blk) v71) prev

/-- The first block: its first row is the prefix sums alone, its other rows follow. -/
def block8Init (v67 v69 : FVec F S64x64 .f32) (v71 : FVec F S256x256 .f32) (blk : FVec F S8x8x256 .f32) : FVec F S8x256 .f32 :=
  rows7 (blockRows v67 blk) (blockRows v69 blk) (tailSums (blockRows v69 blk) v71)
    (firstPrefix (blockRows v69 blk) (tailSums (blockRows v69 blk) v71))

/-- Block `b` of the strips: rows `8 b …` of each. -/
def blkOf (G : FVec F S8x256x256 .f32) (b : ℕ) : FVec F S8x8x256 .f32 :=
  fun j => G (ix3 (j 0) ⟨(8 * b + (j 1).val) % 256, Nat.mod_lt _ (by decide)⟩ (j 2))

/-- `n` blocks of the sweep from block `b0`. -/
def sweep (v67 v69 : FVec F S64x64 .f32) (v71 : FVec F S256x256 .f32) (G : FVec F S8x256x256 .f32) (b0 : ℕ)
    (init : FVec F S8x256 .f32) : ℕ → FVec F S8x256 .f32
  | 0 => init
  | n + 1 => block8 v67 v69 v71 (blkOf G (b0 + n)) (sweep v67 v69 v71 G b0 init n)

/-- The eight strips of 256 columns that a 256 × 2048 tile of distances is stored as. -/
def strips (D : FVec F S256x2048 .f32) : FVec F S8x256x256 .f32 :=
  fun j => D (ix2 (j 1) ⟨256 * (j 0).val + (j 2).val, by have h0 := (j 0).isLt; have h2 := (j 2).isLt; simp at h0 h2 ⊢; omega⟩)

end Cert.KernelIdeal.Dtw

end
-- ==== Proof.Dp.lean ====
/-
  The dynamic program over the extended reals, in plain mathematics: one row from the row before, as the reference
  writes it.
-/
module

public import Mathlib.Data.EReal.Operations
public import Mathlib.Algebra.BigOperators.Intervals
public import Mathlib.Data.Finset.Lattice.Fold
public import Idealize.ShloMosaic.PureOps.Ideal

@[expose] public section

noncomputable section

namespace Cert.Dp

/-- The sum of the entries up to `j`. -/
def sumTo (f : ℕ → EReal) (j : ℕ) : EReal := ∑ k ∈ Finset.range (j + 1), f k

/-- The smallest of the entries up to `j`. -/
def lowest (f : ℕ → EReal) (j : ℕ) : EReal := (Finset.range (j + 1)).inf f

/-- The entry before `j`; nothing lies before the first. -/
def before (p : ℕ → EReal) (j : ℕ) : EReal := if j = 0 then ⊤ else p (j - 1)

/-- The next row: prefix sums plus the running minimum of what remains when they are taken away. -/
def step (d p : ℕ → EReal) (j : ℕ) : EReal :=
  sumTo d j + lowest (fun k => (d k + min (p k) (before p k)) - sumTo d k) j

/-- Row `i` of the dynamic program over the distances `d`. -/
def row (d : ℕ → ℕ → EReal) : ℕ → ℕ → EReal
  | 0 => sumTo (d 0)
  | i + 1 => step (d (i + 1)) (row d i)

theorem le_lowest_iff (f : ℕ → EReal) (j : ℕ) (x : EReal) : x ≤ lowest f j ↔ ∀ k, k ≤ j → x ≤ f k := by
  unfold lowest
  rw [Finset.le_inf_iff]
  simp [Nat.lt_succ_iff]

theorem lowest_congr {f g : ℕ → EReal} {j : ℕ} (h : ∀ k, k ≤ j → f k = g k) : lowest f j = lowest g j :=
  Finset.inf_congr rfl fun k hk => h k (by simpa [Nat.lt_succ_iff] using hk)

theorem sumTo_congr {f g : ℕ → EReal} {j : ℕ} (h : ∀ k, k ≤ j → f k = g k) : sumTo f j = sumTo g j :=
  Finset.sum_congr rfl fun k hk => h k (by simpa [Nat.lt_succ_iff] using hk)

/-- A row depends on the distances and on the row before only up to its own place. -/
theorem step_congr {d d' p p' : ℕ → EReal} {j : ℕ} (hd : ∀ k, k ≤ j → d k = d' k) (hp : ∀ k, k ≤ j → p k = p' k) :
    step d p j = step d' p' j := by
  unfold step
  rw [sumTo_congr hd]
  congr 1
  refine lowest_congr fun k hk => ?_
  rw [hd k hk, hp k hk, sumTo_congr fun i hi => hd i (hi.trans hk)]
  congr 3
  unfold before
  split
  · rfl
  · exact hp _ (by omega)

theorem row_congr {d d' : ℕ → ℕ → EReal} {n : ℕ} (h : ∀ i k, k ≤ n → d i k = d' i k) :
    ∀ i k, k ≤ n → row d i k = row d' i k
  | 0, k, hk => sumTo_congr fun l hl => h 0 l (hl.trans hk)
  | i + 1, k, hk => step_congr (fun l hl => h (i + 1) l (hl.trans hk)) (fun l hl => row_congr h i l (hl.trans hk))

end Cert.Dp

end
-- ==== Proof.RowVal.lean ====
/-
  One row of the kernel's dynamic program over the extended reals: a tile holds a row of 2048 entries with entry
  `8 l + s` at sublane `s` and lane `l`; the shifts and minima of the tile are then the running minimum of the row.
-/
module

public import proofs.«01_k».proof.Proof.Tile
public import proofs.«01_k».proof.Proof.Dp
public import Idealize.ShloMosaic.Lib.Pointwise
public import Idealize.ShloMosaic.Lib.KernelVsHost
public import Idealize.ShloMosaic.Lib.WordCmp

@[expose] public section

noncomputable section

namespace Cert.KernelIdeal.Dtw

open Idealize.ShloMosaic Idealize.ShloMosaic.TcCoe
open Cert.KernelIdeal Cert.KernelIdeal.Facts₀ Cert.KernelIdeal.Facts
open Cert.Dp

/-- A tile holds the row `f`. -/
def Holds (v : FVec Ideal S8x256 .f32) (f : ℕ → EReal) : Prop :=
  ∀ (s : Fin 8) (l : Fin 256), v (ValueIdx.ix2 s l) = f (8 * l.val + s.val)

theorem bigs_apply (s : Shape) (j : s.Idx) : bigs (F := Ideal) s j = (⊤ : EReal) := rfl

theorem sshift_apply (n : ℕ) (hn : n < 8) (v : FVec Ideal S8x256 .f32) (s : Fin 8) (l : Fin 256) :
    sshift (BitVec.ofNat 32 n) v (ValueIdx.ix2 s l)
      = if s.val < n then (⊤ : EReal) else v (ValueIdx.ix2 ⟨s.val - n, by have := s.isLt; omega⟩ l) := by
  have hs := s.isLt
  have hrot : n ≤ s.val → dynamicRotate 0 (BitVec.ofNat 32 n) none v rotates_S8x256_d0 (ValueIdx.ix2 s l)
      = v (ValueIdx.ix2 ⟨s.val - n, by omega⟩ l) := fun h => by
    apply dynamicRotate_apply
    intro b
    fin_cases b
    · show s.val - n = (s.val + 8 - (BitVec.ofNat 32 n).toNat % 8) % 8
      rw [BitVec.toNat_ofNat, Nat.mod_eq_of_lt (show n < 2 ^ 32 by omega)]
      omega
    · rfl
  have hc : cmpi .slt (iota .tc S8x256 32 [0] iota_S8x256_d0_w32) (broadcast S8x256 (BitVec.ofNat 32 n)) (ValueIdx.ix2 s l)
      = BitVec.ofBool (decide (s.val < n)) := by
    show IntOp.cmpi .slt (BitVec.ofNat 32 (0 * 8 + s.val)) (BitVec.ofNat 32 n) = _
    rw [zero_mul, zero_add, WordCmp.cmpi_slt_ofNat (by omega) (by omega)]
  unfold sshift
  show Scalar.select (cmpi .slt _ _ (ValueIdx.ix2 s l)) (⊤ : EReal) _ = _
  rw [hc]
  by_cases h : s.val < n
  · simp [h, Scalar.select]
  · simp only [h, decide_false, if_false]
    exact hrot (by omega)

theorem lshift_apply (n : ℕ) (hn : n < 256) (t : FVec Ideal S1x256 .f32) (l : Fin 256) :
    lshift (BitVec.ofNat 32 n) t (ValueIdx.ix2 0 l)
      = if l.val < n then (⊤ : EReal) else t (ValueIdx.ix2 0 ⟨l.val - n, by have := l.isLt; omega⟩) := by
  have hl := l.isLt
  have hrot : n ≤ l.val → dynamicRotate 1 (BitVec.ofNat 32 n) none t rotates_S1x256_d1 (ValueIdx.ix2 0 l)
      = t (ValueIdx.ix2 0 ⟨l.val - n, by omega⟩) := fun h => by
    apply dynamicRotate_apply
    intro b
    fin_cases b
    · rfl
    · show l.val - n = (l.val + 256 - (BitVec.ofNat 32 n).toNat % 256) % 256
      rw [BitVec.toNat_ofNat, Nat.mod_eq_of_lt (show n < 2 ^ 32 by omega)]
      omega
  have hc : cmpi .slt (iota .tc S1x256 32 [1] iota_S1x256_d1_w32) (broadcast S1x256 (BitVec.ofNat 32 n)) (ValueIdx.ix2 0 l)
      = BitVec.ofBool (decide (l.val < n)) := by
    show IntOp.cmpi .slt (BitVec.ofNat 32 (0 * 256 + l.val)) (BitVec.ofNat 32 n) = _
    rw [zero_mul, zero_add, WordCmp.cmpi_slt_ofNat (by omega) (by omega)]
  unfold lshift
  show Scalar.select (cmpi .slt _ _ (ValueIdx.ix2 0 l)) (⊤ : EReal) _ = _
  rw [hc]
  by_cases h : l.val < n
  · simp [h, Scalar.select]
  · simp only [h, decide_false, if_false]
    exact hrot (by omega)

theorem le_sshift_iff (n : ℕ) (hn : n < 8) (v : FVec Ideal S8x256 .f32) (s : Fin 8) (l : Fin 256) (x : EReal) :
    x ≤ sshift (BitVec.ofNat 32 n) v (ValueIdx.ix2 s l)
      ↔ ∀ s' : Fin 8, s'.val + n = s.val → x ≤ v (ValueIdx.ix2 s' l) := by
  rw [sshift_apply n hn]
  split
  · rename_i h
    exact ⟨fun _ s' h' => by omega, fun _ => le_top⟩
  · rename_i h
    constructor
    · intro hx s' h'
      rwa [show s' = ⟨s.val - n, by have := s.isLt; omega⟩ from Fin.ext (by simp; omega)]
    · intro hx
      exact hx _ (by simp; omega)

theorem le_lshift_iff (n : ℕ) (hn : n < 256) (t : FVec Ideal S1x256 .f32) (l : Fin 256) (x : EReal) :
    x ≤ lshift (BitVec.ofNat 32 n) t (ValueIdx.ix2 0 l)
      ↔ ∀ l' : Fin 256, l'.val + n = l.val → x ≤ t (ValueIdx.ix2 0 l') := by
  rw [lshift_apply n hn]
  split
  · rename_i h
    exact ⟨fun _ s' h' => by omega, fun _ => le_top⟩
  · rename_i h
    constructor
    · intro hx s' h'
      rwa [show s' = ⟨l.val - n, by have := l.isLt; omega⟩ from Fin.ext (by simp; omega)]
    · intro hx
      exact hx _ (by simp; omega)

/-- The running minimum down the sublanes of one lane. -/
theorem le_colMin_iff (v : FVec Ideal S8x256 .f32) (s : Fin 8) (l : Fin 256) (x : EReal) :
    x ≤ colMin v (ValueIdx.ix2 s l) ↔ ∀ s' : Fin 8, s'.val ≤ s.val → x ≤ v (ValueIdx.ix2 s' l) := by
  have stepMin : ∀ (n : ℕ) (hn : n < 8) (w : FVec Ideal S8x256 .f32) (s : Fin 8),
      x ≤ minimumf w (sshift (BitVec.ofNat 32 n) w) (ValueIdx.ix2 s l) ↔
        x ≤ w (ValueIdx.ix2 s l) ∧ ∀ s' : Fin 8, s'.val + n = s.val → x ≤ w (ValueIdx.ix2 s' l) := fun n hn w s => by
    rw [← le_sshift_iff n hn]; exact le_min_iff
  show x ≤ minimumf (minimumf (minimumf v (sshift 1#32 v)) (sshift 2#32 (minimumf v (sshift 1#32 v)))) (sshift 4#32
    (minimumf (minimumf v (sshift 1#32 v)) (sshift 2#32 (minimumf v (sshift 1#32 v))))) (ValueIdx.ix2 s l) ↔ _
  rw [stepMin 4 (by omega)]
  simp only [stepMin 2 (by omega), stepMin 1 (by omega)]
  constructor
  · rintro ⟨⟨⟨h0, h1⟩, h2⟩, h4⟩ s' hs'
    have hs := s.isLt
    rcases Nat.lt_or_ge (s.val - s'.val) 4 with hlt | hge
    · obtain h | h | h | h : s.val - s'.val = 0 ∨ s.val - s'.val = 1 ∨ s.val - s'.val = 2 ∨ s.val - s'.val = 3 := by omega
      · rwa [show s' = s from Fin.ext (by omega)]
      · exact h1 s' (by omega)
      · exact (h2 s' (by omega)).1
      · exact (h2 ⟨s'.val + 1, by omega⟩ (by simp; omega)).2 s' (by simp)
    · have h4' := h4 ⟨s.val - 4, by omega⟩ (by simp; omega)
      obtain h | h | h | h : s.val - s'.val = 4 ∨ s.val - s'.val = 5 ∨ s.val - s'.val = 6 ∨ s.val - s'.val = 7 := by omega
      · rw [show s' = ⟨s.val - 4, by omega⟩ from Fin.ext (by simp; omega)]; exact h4'.1.1
      · exact h4'.1.2 s' (by simp; omega)
      · exact (h4'.2 s' (by simp; omega)).1
      · exact (h4'.2 ⟨s'.val + 1, by omega⟩ (by simp; omega)).2 s' (by simp)
  · intro h
    refine ⟨⟨⟨h _ le_rfl, fun s' e => h s' (by omega)⟩, fun s' e => ⟨h s' (by omega), fun s'' e' => h s'' (by omega)⟩⟩,
      fun s' e => ⟨⟨h s' (by omega), fun s'' e' => h s'' (by omega)⟩, fun s'' e' => ⟨h s'' (by omega), fun s3 e3 => h s3 (by omega)⟩⟩⟩

theorem le_min16_iff (a b c d e f g h i j k l m n o p : FVec Ideal S1x256 .f32) (q : S1x256.Idx) (x : EReal) :
    x ≤ min16 a b c d e f g h i j k l m n o p q ↔
      (((x ≤ a q ∧ x ≤ b q) ∧ x ≤ c q ∧ x ≤ d q) ∧ (x ≤ e q ∧ x ≤ f q) ∧ x ≤ g q ∧ x ≤ h q) ∧
      ((x ≤ i q ∧ x ≤ j q) ∧ x ≤ k q ∧ x ≤ l q) ∧ (x ≤ m q ∧ x ≤ n q) ∧ x ≤ o q ∧ x ≤ p q := by
  show x ≤ min (min (min (min (a q) (b q)) (min (c q) (d q))) (min (min (e q) (f q)) (min (g q) (h q))))
    (min (min (min (i q) (j q)) (min (k q) (l q))) (min (min (m q) (n q)) (min (o q) (p q)))) ↔ _
  simp only [le_min_iff]

theorem le_near_iff (t : FVec Ideal S1x256 .f32) (l : Fin 256) (x : EReal) :
    x ≤ near t (ValueIdx.ix2 0 l) ↔ ∀ l' : Fin 256, l'.val < l.val → l.val ≤ l'.val + 16 → x ≤ t (ValueIdx.ix2 0 l') := by
  unfold near
  rw [le_min16_iff]
  have hs : ∀ n : ℕ, n < 256 → _ := fun n hn => le_lshift_iff n hn t l x
  rw [hs 1 (by omega), hs 2 (by omega), hs 3 (by omega), hs 4 (by omega), hs 5 (by omega), hs 6 (by omega), hs 7 (by omega),
    hs 8 (by omega), hs 9 (by omega), hs 10 (by omega), hs 11 (by omega), hs 12 (by omega), hs 13 (by omega),
    hs 14 (by omega), hs 15 (by omega), hs 16 (by omega)]
  constructor
  · rintro ⟨⟨⟨⟨h1, h2⟩, h3, h4⟩, ⟨h5, h6⟩, h7, h8⟩, ⟨⟨h9, h10⟩, h11, h12⟩, ⟨h13, h14⟩, h15, h16⟩ l' hlt hle
    have key : ∀ n, 1 ≤ n → n ≤ 16 → l'.val + n = l.val → x ≤ t (ValueIdx.ix2 0 l') := by
      intro n hn hn' e
      interval_cases n
      exacts [h1 l' e, h2 l' e, h3 l' e, h4 l' e, h5 l' e, h6 l' e, h7 l' e, h8 l' e, h9 l' e, h10 l' e, h11 l' e,
        h12 l' e, h13 l' e, h14 l' e, h15 l' e, h16 l' e]
    exact key (l.val - l'.val) (by omega) (by omega) (by omega)
  · intro h
    refine ⟨⟨⟨⟨?_, ?_⟩, ?_, ?_⟩, ⟨?_, ?_⟩, ?_, ?_⟩, ⟨⟨?_, ?_⟩, ?_, ?_⟩, ⟨?_, ?_⟩, ?_, ?_⟩ <;>
      exact fun l' e => h l' (by omega) (by omega)

theorem le_far_iff (t : FVec Ideal S1x256 .f32) (l : Fin 256) (x : EReal) :
    x ≤ far t (ValueIdx.ix2 0 l) ↔ ∀ (m : ℕ) (l' : Fin 256), m < 16 → l'.val + 16 * m = l.val → x ≤ t (ValueIdx.ix2 0 l') := by
  unfold far
  rw [le_min16_iff]
  have hs : ∀ n : ℕ, n < 256 → _ := fun n hn => le_lshift_iff n hn t l x
  rw [hs 16 (by omega), hs 32 (by omega), hs 48 (by omega), hs 64 (by omega), hs 80 (by omega), hs 96 (by omega),
    hs 112 (by omega), hs 128 (by omega), hs 144 (by omega), hs 160 (by omega), hs 176 (by omega), hs 192 (by omega),
    hs 208 (by omega), hs 224 (by omega), hs 240 (by omega)]
  constructor
  · rintro ⟨⟨⟨⟨h0, h1⟩, h2, h3⟩, ⟨h4, h5⟩, h6, h7⟩, ⟨⟨h8, h9⟩, h10, h11⟩, ⟨h12, h13⟩, h14, h15⟩ m l' hm e
    interval_cases m
    · rwa [show l' = l from Fin.ext (by omega)]
    exacts [h1 l' e, h2 l' e, h3 l' e, h4 l' e, h5 l' e, h6 l' e, h7 l' e, h8 l' e, h9 l' e, h10 l' e, h11 l' e,
        h12 l' e, h13 l' e, h14 l' e, h15 l' e]
  · intro h
    exact ⟨⟨⟨⟨h 0 l (by omega) (by omega), fun l' e => h 1 l' (by omega) (by omega)⟩, fun l' e => h 2 l' (by omega) (by omega),
      fun l' e => h 3 l' (by omega) (by omega)⟩, ⟨fun l' e => h 4 l' (by omega) (by omega), fun l' e => h 5 l' (by omega) (by omega)⟩,
      fun l' e => h 6 l' (by omega) (by omega), fun l' e => h 7 l' (by omega) (by omega)⟩,
      ⟨⟨fun l' e => h 8 l' (by omega) (by omega), fun l' e => h 9 l' (by omega) (by omega)⟩, fun l' e => h 10 l' (by omega) (by omega),
      fun l' e => h 11 l' (by omega) (by omega)⟩, ⟨fun l' e => h 12 l' (by omega) (by omega), fun l' e => h 13 l' (by omega) (by omega)⟩,
      fun l' e => h 14 l' (by omega) (by omega), fun l' e => h 15 l' (by omega) (by omega)⟩

/-- All the lanes before. -/
theorem le_far_near_iff (t : FVec Ideal S1x256 .f32) (l : Fin 256) (x : EReal) :
    x ≤ far (near t) (ValueIdx.ix2 0 l) ↔ ∀ l' : Fin 256, l'.val < l.val → x ≤ t (ValueIdx.ix2 0 l') := by
  rw [le_far_iff]
  simp only [le_near_iff]
  have hl := l.isLt
  constructor
  · intro h l' hl'
    exact h ((l.val - l'.val - 1) / 16) ⟨l.val - 16 * ((l.val - l'.val - 1) / 16), by omega⟩ (by omega) (by simp; omega) l'
      (by simp; omega) (by simp; omega)
  · intro h m l1 hm e l' h1 h2
    exact h l' (by omega)

theorem spread_apply (t : FVec Ideal S1x256 .f32) (s : Fin 8) (l : Fin 256) :
    spread t (ValueIdx.ix2 s l) = t (ValueIdx.ix2 0 l) := by
  unfold spread
  apply broadcastTo_apply
  intro a
  fin_cases a <;> rfl

theorem lastSub_apply (v : FVec Ideal S8x256 .f32) (l : Fin 256) : lastSub v (ValueIdx.ix2 0 l) = v (ValueIdx.ix2 7 l) := by
  unfold lastSub
  apply extractStridedSlice_apply
  intro a
  fin_cases a <;> simp

/-- The running minimum of the row that a tile holds. -/
theorem holds_lowest {v : FVec Ideal S8x256 .f32} {f : ℕ → EReal} (h : Holds v f) : Holds (acrossMin (colMin v)) (lowest f) := by
  intro s l
  refine eq_of_forall_le_iff fun x => ?_
  rw [le_lowest_iff]
  show x ≤ min (colMin v (ValueIdx.ix2 s l)) (spread (far (near (lastSub (colMin v)))) (ValueIdx.ix2 s l)) ↔ _
  rw [le_min_iff, spread_apply, le_far_near_iff, le_colMin_iff]
  simp only [lastSub_apply, le_colMin_iff]
  have hs := s.isLt
  have hl := l.isLt
  constructor
  · rintro ⟨h1, h2⟩ k hk
    have hk8 : 8 * (k / 8) + k % 8 = k := by omega
    rcases Nat.lt_or_ge (k / 8) l.val with hlt | hge
    · have := h2 ⟨k / 8, by omega⟩ hlt ⟨k % 8, by omega⟩ (by simp; omega)
      rw [h] at this
      simpa [hk8] using this
    · have := h1 ⟨k % 8, by omega⟩ (by simp; omega)
      rw [h] at this
      rwa [show 8 * l.val + k % 8 = k by omega] at this
  · intro hx
    exact ⟨fun s' hs' => by rw [h]; exact hx _ (by omega), fun l' hl' s' _ => by rw [h]; exact hx _ (by have := s'.isLt; omega)⟩

/-- The smaller of each entry and the one before. -/
theorem holds_pairMin {v : FVec Ideal S8x256 .f32} {f : ℕ → EReal} (h : Holds v f) :
    Holds (pairMin v) (fun k => min (f k) (before f k)) := by
  intro s l
  have hs := s.isLt
  have hm1 : minimumf v (sshift 1#32 v) (ValueIdx.ix2 s l)
      = min (f (8 * l.val + s.val)) (if s.val < 1 then ⊤ else f (8 * l.val + s.val - 1)) := by
    show min (v (ValueIdx.ix2 s l)) (sshift (BitVec.ofNat 32 1) v (ValueIdx.ix2 s l)) = _
    rw [sshift_apply 1 (by omega), h]
    congr 1
    split
    · rfl
    · rw [h]; congr 1; simp; omega
  have hc : cmpi .eq (iota .tc S8x256 32 [0] iota_S8x256_d0_w32) (broadcast S8x256 0#32) (ValueIdx.ix2 s l)
      = BitVec.ofBool (decide (s.val = 0)) := by
    show IntOp.cmpi .eq (BitVec.ofNat 32 (0 * 8 + s.val)) 0#32 = _
    rw [zero_mul, zero_add]
    exact (by decide : ∀ s : Fin 8, IntOp.cmpi .eq (BitVec.ofNat 32 s.val) 0#32 = BitVec.ofBool (decide (s.val = 0))) s
  unfold pairMin
  show Scalar.select (cmpi .eq _ _ (ValueIdx.ix2 s l)) (min (minimumf v (sshift 1#32 v) (ValueIdx.ix2 s l))
    (spread (lshift 1#32 (lastSub v)) (ValueIdx.ix2 s l))) (minimumf v (sshift 1#32 v) (ValueIdx.ix2 s l)) = _
  rw [hc, hm1, spread_apply, show (1#32 : BitVec 32) = BitVec.ofNat 32 1 from rfl, lshift_apply 1 (by omega), lastSub_apply, h]
  by_cases h0 : s.val = 0
  · simp only [h0, decide_true, before]
    show min (min (f (8 * l.val + 0)) _) _ = _
    by_cases hl0 : l.val = 0
    · simp [hl0]
    · have e : 8 * (l.val - 1) + 7 = 8 * l.val - 1 := by omega
      have e2 : ¬ l.val < 1 := by omega
      simp [hl0, e, e2]
  · have e1 : ¬ s.val < 1 := by omega
    simp only [h0, decide_false, before, e1, if_false]
    show min _ _ = _
    rw [if_neg (by omega)]

/-- One row of the kernel is one row of the dynamic program. -/
theorem holds_rowUp {drow c prev : FVec Ideal S8x256 .f32} {d p : ℕ → EReal} (hd : Holds drow d) (hc : Holds c (sumTo d))
    (hp : Holds prev p) : Holds (rowUp drow c prev) (step d p) := by
  intro s l
  have hx : Holds (subf (addf drow (pairMin prev)) c) (fun k => (d k + min (p k) (before p k)) - sumTo d k) := by
    intro s l
    show (drow (ValueIdx.ix2 s l) + pairMin prev (ValueIdx.ix2 s l)) - c (ValueIdx.ix2 s l) = _
    rw [hd, hc, holds_pairMin hp]
  show c (ValueIdx.ix2 s l) + acrossMin (colMin (subf (addf drow (pairMin prev)) c)) (ValueIdx.ix2 s l) = _
  rw [hc, holds_lowest hx]
  rfl

end Cert.KernelIdeal.Dtw

end
-- ==== Proof.BlockVal.lean ====
/-
  One block of the kernel's sweep over the extended reals: the products with 0/1 matrices pick the block's eight rows
  of distances and add their prefix sums, and the block is then eight rows of the dynamic program.
-/
module

public import proofs.«01_k».proof.Proof.RowVal
public import Idealize.ShloMosaic.Lib.MatmulPlain
public import Idealize.ShloMosaic.Lib.Pipeline.Value

@[expose] public section

noncomputable section

namespace Cert.KernelIdeal.Dtw

open Idealize.ShloMosaic Idealize.ShloMosaic.TcCoe
open Cert.KernelIdeal Cert.KernelIdeal.Facts₀ Cert.KernelIdeal.Facts
open Cert.Dp

/-- The matrix that puts the eight entries of each row next to each other. -/
def IsPerm (P : FVec Ideal S64x64 .f32) : Prop :=
  ∀ a k : Fin 64, P (ValueIdx.ix2 a k) = if k.val = 8 * (a.val % 8) + a.val / 8 then (1 : EReal) else 0

/-- The matrix that adds, within a row, the entries up to each. -/
def IsLow (L : FVec Ideal S64x64 .f32) : Prop :=
  ∀ a k : Fin 64, L (ValueIdx.ix2 a k) = if k.val % 8 = a.val / 8 ∧ k.val / 8 ≤ a.val % 8 then (1 : EReal) else 0

/-- The matrix that adds the lanes before each lane. -/
def IsUex (U : FVec Ideal S256x256 .f32) : Prop :=
  ∀ k l : Fin 256, U (ValueIdx.ix2 k l) = if k.val < l.val then (1 : EReal) else 0

/-- A block holds eight rows of distances. -/
def HoldsBlk (blk : FVec Ideal S8x8x256 .f32) (dr : ℕ → ℕ → EReal) : Prop :=
  ∀ (s r : Fin 8) (l : Fin 256), blk (ValueIdx.ix3 s r l) = dr r.val (8 * l.val + s.val)

/-- A product with the indicator of a set of places, summed, is the sum over the set. -/
theorem sum_indicator {n : ℕ} (p : ℕ → Prop) [DecidablePred p] (f : ℕ → EReal) :
    ∑ k : Fin n, (if p k.val then (1 : EReal) else 0) * f k.val = ∑ k ∈ (Finset.range n).filter p, f k := by
  rw [← Finset.sum_range (fun k => (if p k then (1 : EReal) else 0) * f k), Finset.sum_filter]
  refine Finset.sum_congr rfl fun k _ => ?_
  split <;> simp

theorem dot64_apply (P : FVec Ideal S64x64 .f32) (x : FVec Ideal S64x256 .f32) (a : Fin 64) (l : Fin 256) :
    matmul dot_S64x64_S64x256_S64x256_1_0_0_1_n_n (some .fp32) P x (constant S64x256 .f32 0x00000000#32) (ValueIdx.ix2 a l)
      = ∑ k : Fin 64, P (ValueIdx.ix2 a k) * x (ValueIdx.ix2 k l) := by
  refine (Ideal.matmul_plain_apply (some .fp32) P x _ a l).trans ?_
  rw [show constant (F := Ideal) S64x256 .f32 0x00000000#32 (ValueIdx.ix2 a l) = (0 : EReal) from Ideal.ofBits_zero .f32, zero_add]

theorem dot8_apply (x : FVec Ideal S8x256 .f32) (U : FVec Ideal S256x256 .f32) (r : Fin 8) (l : Fin 256) :
    matmul dot_S8x256_S256x256_S8x256_1_0_0_1_n_n (some .fp32) x U (constant S8x256 .f32 0x00000000#32) (ValueIdx.ix2 r l)
      = ∑ k : Fin 256, x (ValueIdx.ix2 r k) * U (ValueIdx.ix2 k l) := by
  refine (Ideal.matmul_plain_apply (some .fp32) x U _ r l).trans ?_
  rw [show constant (F := Ideal) S8x256 .f32 0x00000000#32 (ValueIdx.ix2 r l) = (0 : EReal) from Ideal.ofBits_zero .f32, zero_add]

/-- The block as a 64 × 256 matrix. -/
theorem flat_apply {blk : FVec Ideal S8x8x256 .f32} {dr : ℕ → ℕ → EReal} (h : HoldsBlk blk dr) (k : Fin 64) (l : Fin 256) :
    shapeCast S64x256 blk shapeCasts_S8x8x256_S64x256 (ValueIdx.ix2 k l) = dr (k.val % 8) (8 * l.val + k.val / 8) := by
  have hk := k.isLt
  refine (shapeCast_apply _ _ _ (ValueIdx.ix3 ⟨k.val / 8, by omega⟩ ⟨k.val % 8, by omega⟩ l) ?_).trans (h _ _ _)
  rw [Shape.rowMajor_val_two, Shape.rowMajor_val_three]
  show (k.val / 8 * 8 + k.val % 8) * 256 + l.val = k.val * 256 + l.val
  omega

theorem blockRows_perm {P : FVec Ideal S64x64 .f32} (hP : IsPerm P) {blk : FVec Ideal S8x8x256 .f32} {dr : ℕ → ℕ → EReal}
    (h : HoldsBlk blk dr) (a : Fin 64) (l : Fin 256) :
    blockRows P blk (ValueIdx.ix2 a l) = dr (a.val / 8) (8 * l.val + a.val % 8) := by
  unfold blockRows
  rw [dot64_apply]
  simp only [hP a, flat_apply h]
  rw [sum_indicator (fun k => k = 8 * (a.val % 8) + a.val / 8) (fun k => dr (k % 8) (8 * l.val + k / 8))]
  have ha := a.isLt
  rw [show (Finset.range 64).filter (fun k => k = 8 * (a.val % 8) + a.val / 8) = {8 * (a.val % 8) + a.val / 8} by
    ext k; simp only [Finset.mem_filter, Finset.mem_range, Finset.mem_singleton]; omega, Finset.sum_singleton]
  congr 1 <;> omega

theorem blockRows_low {L : FVec Ideal S64x64 .f32} (hL : IsLow L) {blk : FVec Ideal S8x8x256 .f32} {dr : ℕ → ℕ → EReal}
    (h : HoldsBlk blk dr) (a : Fin 64) (l : Fin 256) :
    blockRows L blk (ValueIdx.ix2 a l) = ∑ s ∈ Finset.range (a.val % 8 + 1), dr (a.val / 8) (8 * l.val + s) := by
  unfold blockRows
  rw [dot64_apply]
  simp only [hL a, flat_apply h]
  rw [sum_indicator (fun k => k % 8 = a.val / 8 ∧ k / 8 ≤ a.val % 8) (fun k => dr (k % 8) (8 * l.val + k / 8))]
  have ha := a.isLt
  rw [show (Finset.range 64).filter (fun k => k % 8 = a.val / 8 ∧ k / 8 ≤ a.val % 8)
      = (Finset.range (a.val % 8 + 1)).image (fun s => 8 * s + a.val / 8) by
    ext k
    simp only [Finset.mem_filter, Finset.mem_range, Finset.mem_image]
    constructor
    · rintro ⟨h1, h2, h3⟩; exact ⟨k / 8, by omega, by omega⟩
    · rintro ⟨s, h1, rfl⟩; omega]
  rw [Finset.sum_image (fun x _ y _ e => by simpa using e)]
  refine Finset.sum_congr rfl fun s hs => ?_
  congr 1 <;> omega

theorem tails_apply (w : FVec Ideal S64x256 .f32) (r : Fin 8) (l : Fin 256) :
    tails w (ValueIdx.ix2 r l) = w (ValueIdx.ix2 ⟨8 * r.val + 7, by have := r.isLt; omega⟩ l) := by
  have hs : ∀ n : Fin 8, S64x256.Slices ![8 * n.val + 7, 0] S1x256 := by decide
  have e : tails w = concatenate S8x256 0 (List.ofFn fun n : Fin 8 => (⟨S1x256, extractStridedSlice S1x256 ![8 * n.val + 7, 0] w (hs n)⟩ : (s : Shape) × (s.Idx → Ideal .f32)))
      concatenates_S1x256_S1x256_S1x256_S1x256_S1x256_S1x256_S1x256_S1x256_S8x256_d0 := rfl
  rw [e]
  refine (concatenate_ofFn_unit_apply (t := S8x256) (s₁ := S1x256) 0 (fun n : Fin 8 => extractStridedSlice S1x256 ![8 * n.val + 7, 0] w (hs n))
    _ rfl rfl (ValueIdx.ix2 r l) r rfl (ValueIdx.ix2 0 l) ?_).trans ?_
  · intro b hb
    fin_cases b
    · exact absurd rfl hb
    · rfl
  · apply extractStridedSlice_apply
    intro a
    fin_cases a <;> simp

/-- Sums over whole groups of eight. -/
theorem sum_groups (f : ℕ → EReal) (n : ℕ) :
    ∑ k ∈ Finset.range n, ∑ s ∈ Finset.range 8, f (8 * k + s) = ∑ j ∈ Finset.range (8 * n), f j := by
  induction n with
  | zero => simp
  | succ n ih => rw [Finset.sum_range_succ, ih, show 8 * (n + 1) = 8 * n + 8 by omega, Finset.sum_range_add]

theorem tailSums_apply {L : FVec Ideal S64x64 .f32} (hL : IsLow L) {U : FVec Ideal S256x256 .f32} (hU : IsUex U)
    {blk : FVec Ideal S8x8x256 .f32} {dr : ℕ → ℕ → EReal} (h : HoldsBlk blk dr) (r : Fin 8) (l : Fin 256) :
    tailSums (blockRows L blk) U (ValueIdx.ix2 r l) = ∑ j ∈ Finset.range (8 * l.val), dr r.val j := by
  unfold tailSums
  rw [dot8_apply]
  have hr := r.isLt
  have hl := l.isLt
  simp only [hU _ l, tails_apply, blockRows_low hL h]
  rw [← sum_groups]
  refine (Finset.sum_congr rfl fun k _ => ?_).trans ((sum_indicator (fun k => k < l.val)
    (fun k => ∑ s ∈ Finset.range 8, dr r.val (8 * k + s))).trans (Finset.sum_congr ?_ fun _ _ => rfl))
  · rw [mul_comm, show (8 * r.val + 7) % 8 + 1 = 8 by omega, show (8 * r.val + 7) / 8 = r.val by omega]
  · ext k; simp only [Finset.mem_filter, Finset.mem_range]; omega

/-- The prefix sums of one of the eight rows. -/
theorem holds_prefix {L : FVec Ideal S64x64 .f32} (hL : IsLow L) {U : FVec Ideal S256x256 .f32} (hU : IsUex U)
    {blk : FVec Ideal S8x8x256 .f32} {dr : ℕ → ℕ → EReal} (h : HoldsBlk blk dr) (r : ℕ) (hr : r < 8)
    (h1 : S64x256.Slices ![8 * r, 0] S8x256) (h2 : S8x256.Slices ![r, 0] S1x256) :
    Holds (withTail (extractStridedSlice S8x256 ![8 * r, 0] (blockRows L blk) h1)
      (extractStridedSlice S1x256 ![r, 0] (tailSums (blockRows L blk) U) h2)) (sumTo (dr r)) := by
  intro s l
  have hs := s.isLt
  show extractStridedSlice S8x256 ![8 * r, 0] (blockRows L blk) h1 (ValueIdx.ix2 s l) + spread _ (ValueIdx.ix2 s l) = _
  rw [spread_apply,
    extractStridedSlice_apply _ _ _ (ValueIdx.ix2 s l) (ValueIdx.ix2 (⟨8 * r + s.val, by omega⟩ : Fin 64) l) (by
      intro a; fin_cases a <;> simp),
    extractStridedSlice_apply _ _ _ (ValueIdx.ix2 (0 : Fin 1) l) (ValueIdx.ix2 (⟨r, hr⟩ : Fin 8) l) (by
      intro a; fin_cases a <;> simp),
    blockRows_low hL h, tailSums_apply hL hU h]
  show (∑ k ∈ Finset.range ((8 * r + s.val) % 8 + 1), dr ((8 * r + s.val) / 8) (8 * l.val + k)) + ∑ j ∈ Finset.range (8 * l.val), dr r j
    = ∑ k ∈ Finset.range (8 * l.val + s.val + 1), dr r k
  rw [show (8 * r + s.val) % 8 = s.val by omega, show (8 * r + s.val) / 8 = r by omega, add_comm,
    show 8 * l.val + s.val + 1 = 8 * l.val + (s.val + 1) by omega]
  exact (Finset.sum_range_add (dr r) (8 * l.val) (s.val + 1)).symm

/-- One of the eight rows of distances. -/
theorem holds_dist {P : FVec Ideal S64x64 .f32} (hP : IsPerm P) {blk : FVec Ideal S8x8x256 .f32} {dr : ℕ → ℕ → EReal}
    (h : HoldsBlk blk dr) (r : ℕ) (hr : r < 8) (h1 : S64x256.Slices ![8 * r, 0] S8x256) :
    Holds (extractStridedSlice S8x256 ![8 * r, 0] (blockRows P blk) h1) (dr r) := by
  intro s l
  have hs := s.isLt
  rw [extractStridedSlice_apply _ _ _ (ValueIdx.ix2 s l) (ValueIdx.ix2 (⟨8 * r + s.val, by omega⟩ : Fin 64) l) (by
      intro a; fin_cases a <;> simp), blockRows_perm hP h]
  show dr ((8 * r + s.val) / 8) (8 * l.val + (8 * r + s.val) % 8) = _
  rw [show (8 * r + s.val) % 8 = s.val by omega, show (8 * r + s.val) / 8 = r by omega]

section
variable {P L : FVec Ideal S64x64 .f32} {U : FVec Ideal S256x256 .f32} (hP : IsPerm P) (hL : IsLow L) (hU : IsUex U)
  {blk : FVec Ideal S8x8x256 .f32} {dr : ℕ → ℕ → EReal} (h : HoldsBlk blk dr)
include hP hL hU h

/-- The block's rows after its first. -/
theorem holds_rows7 (R : ℕ → ℕ → EReal) (hR : ∀ i, R (i + 1) = step (dr (i + 1)) (R i)) {p0 : FVec Ideal S8x256 .f32}
    (h0 : Holds p0 (R 0)) : Holds (rows7 (blockRows P blk) (blockRows L blk) (tailSums (blockRows L blk) U) p0) (R 7) := by
  have up : ∀ (r : ℕ) (hr : r + 1 < 8) (h1 : S64x256.Slices ![8 * (r + 1), 0] S8x256) (h2 : S8x256.Slices ![r + 1, 0] S1x256)
      (p : FVec Ideal S8x256 .f32), Holds p (R r) →
      Holds (rowUp (extractStridedSlice S8x256 ![8 * (r + 1), 0] (blockRows P blk) h1)
        (withTail (extractStridedSlice S8x256 ![8 * (r + 1), 0] (blockRows L blk) h1)
          (extractStridedSlice S1x256 ![r + 1, 0] (tailSums (blockRows L blk) U) h2)) p) (R (r + 1)) := by
    intro r hr h1 h2 p hp
    rw [hR]
    exact holds_rowUp (holds_dist hP h (r + 1) hr h1) (holds_prefix hL hU h (r + 1) hr h1 h2) hp
  unfold rows7
  exact up 6 (by omega) _ _ _ (up 5 (by omega) _ _ _ (up 4 (by omega) _ _ _ (up 3 (by omega) _ _ _ (up 2 (by omega) _ _ _
    (up 1 (by omega) _ _ _ (up 0 (by omega) _ _ _ h0))))))

/-- Eight rows from the row before. -/
theorem holds_block8 (p : ℕ → EReal) (R : ℕ → ℕ → EReal) (hR0 : R 0 = step (dr 0) p) (hR : ∀ i, R (i + 1) = step (dr (i + 1)) (R i))
    {prev : FVec Ideal S8x256 .f32} (h0 : Holds prev p) : Holds (block8 P L U blk prev) (R 7) := by
  refine holds_rows7 hP hL hU h R hR ?_
  rw [hR0]
  exact holds_rowUp (holds_dist hP h 0 (by omega) _) (holds_prefix hL hU h 0 (by omega) _ _) h0

/-- The first eight rows. -/
theorem holds_block8Init (R : ℕ → ℕ → EReal) (hR0 : R 0 = sumTo (dr 0)) (hR : ∀ i, R (i + 1) = step (dr (i + 1)) (R i)) :
    Holds (block8Init P L U blk) (R 7) := by
  refine holds_rows7 hP hL hU h R hR ?_
  rw [hR0]
  exact holds_prefix hL hU h 0 (by omega) _ _
end

/-- The strips of 256 rows hold the distances from row `i0` on. -/
def HoldsStrips (G : FVec Ideal S8x256x256 .f32) (d : ℕ → ℕ → EReal) (i0 : ℕ) : Prop :=
  ∀ (s : Fin 8) (r l : Fin 256), G (ValueIdx.ix3 s r l) = d (i0 + r.val) (8 * l.val + s.val)

theorem holdsBlk_blkOf {G : FVec Ideal S8x256x256 .f32} {d : ℕ → ℕ → EReal} {i0 : ℕ} (h : HoldsStrips G d i0) (b : ℕ) (hb : b < 32) :
    HoldsBlk (blkOf G b) (fun r j => d (i0 + 8 * b + r) j) := by
  intro s r l
  have hr := r.isLt
  show G (ValueIdx.ix3 s ⟨(8 * b + r.val) % 256, _⟩ l) = _
  rw [h]
  show d (i0 + (8 * b + r.val) % 256) _ = d (i0 + 8 * b + r.val) _
  rw [Nat.mod_eq_of_lt (by omega), add_assoc]

/-- `n` blocks of the sweep are `8 n` rows of the dynamic program. -/
theorem holds_sweep {P L : FVec Ideal S64x64 .f32} {U : FVec Ideal S256x256 .f32} (hP : IsPerm P) (hL : IsLow L) (hU : IsUex U)
    {G : FVec Ideal S8x256x256 .f32} {d : ℕ → ℕ → EReal} {i0 : ℕ} (h : HoldsStrips G d i0) (b0 : ℕ) {init : FVec Ideal S8x256 .f32}
    (i1 : ℕ) (hi1 : i1 + 1 = i0 + 8 * b0) (hinit : Holds init (row d i1)) :
    ∀ n, b0 + n ≤ 32 → Holds (sweep P L U G b0 init n) (row d (i1 + 8 * n))
  | 0, _ => hinit
  | n + 1, hn => by
    have ih := holds_sweep hP hL hU h b0 i1 hi1 hinit n (by omega)
    have e : ∀ r, i0 + 8 * (b0 + n) + r = i1 + 8 * n + r + 1 := fun r => by omega
    have := holds_block8 hP hL hU (holdsBlk_blkOf h (b0 + n) (by omega)) (row d (i1 + 8 * n))
      (fun r => row d (i1 + 8 * n + r + 1)) (by rw [e]; rfl) (fun i => by rw [e]; rfl) ih
    exact this

end Cert.KernelIdeal.Dtw

end
-- ==== Proof.Distance.lean ====
/-
  The distance of two rows in plain mathematics, and the one sum of products that gives its square at finite entries.
-/
module

public import proofs.«01_k».proof.Proof.Dp
public import Idealize.ShloMosaic.PureOps.Ideal
public import Mathlib.Algebra.BigOperators.Fin
public import Mathlib.Data.EReal.Operations

@[expose] public section

noncomputable section

namespace Cert.Dp

open Idealize.ShloMosaic

/-- The square of the distance of two rows: both squares less twice the product. -/
def square (x y : Fin 128 → EReal) : EReal :=
  ((∑ k, x k * x k) + ∑ k, y k * y k) - Ideal.ofBits .f32 0x40000000#32 * ∑ k, x k * y k

/-- The distance of two rows. -/
def distance (x y : Fin 128 → EReal) : EReal :=
  Ideal.sqrt (max (square x y) (Ideal.ofBits .f32 0x2B8CBCCC#32))

/-- A row's entry among the 130: the entry itself, then the two given ends. -/
def longer (u : Fin 128 → EReal) (a b : EReal) (k : Fin 130) : EReal :=
  if h : k.val < 128 then u ⟨k.val, h⟩ else if k.val - 128 < 1 then a else b

theorem sum_longer (u v : Fin 128 → EReal) (a b a' b' : EReal) :
    (∑ k, longer u a b k * longer v a' b' k) = (∑ k, u k * v k) + (a * a' + b * b') := by
  rw [show (∑ k : Fin 130, longer u a b k * longer v a' b' k)
      = ∑ k : Fin (128 + 2), longer u a b k * longer v a' b' k from rfl, Fin.sum_univ_add, Fin.sum_univ_two]
  rfl

theorem two_eq : Ideal.ofBits .f32 0x40000000#32 = ((2 : ℝ) : EReal) := by
  simp [Ideal.ofBits, Ideal.ieee]
  rw [← EReal.coe_mul]
  norm_num

theorem neg_two_eq : Ideal.ofBits .f32 0xC0000000#32 = ((-2 : ℝ) : EReal) := by
  simp [Ideal.ofBits, Ideal.ieee]
  rw [← EReal.coe_mul]
  norm_num

theorem sum_coe {n : ℕ} (f : Fin n → ℝ) : (∑ k, ((f k : ℝ) : EReal)) = ((∑ k, f k : ℝ) : EReal) := by
  induction n with
  | zero => simp
  | succ n ih => rw [Fin.sum_univ_succ, Fin.sum_univ_succ, ih, EReal.coe_add]

/-- At finite entries one sum of 130 products is the square of the distance. -/
theorem sum_square (x y : Fin 128 → EReal) (hx : ∀ k, ∃ r : ℝ, x k = r) (hy : ∀ k, ∃ r : ℝ, y k = r) :
    (∑ k, longer (fun k => Ideal.ofBits .f32 0xC0000000#32 * x k) (∑ k, x k * x k) 1 k
      * longer y 1 (∑ k, y k * y k) k) = square x y := by
  choose a ha using hx
  choose b hb using hy
  obtain rfl : x = fun k => ((a k : ℝ) : EReal) := funext ha
  obtain rfl : y = fun k => ((b k : ℝ) : EReal) := funext hb
  rw [sum_longer]
  unfold square
  rw [two_eq, neg_two_eq, mul_one, one_mul]
  simp only [← EReal.coe_mul, sum_coe, ← EReal.coe_add, ← EReal.coe_sub]
  refine congrArg _ ?_
  have h : (∑ k, -2 * a k * b k) = -2 * ∑ k, a k * b k := by
    rw [Finset.mul_sum]
    exact Finset.sum_congr rfl fun k _ => by ring
  rw [h]
  ring

/-- The table of distances between the rows of two arrays; outside of it, nothing. -/
def distances (x y : Fin 2048 → Fin 128 → EReal) (i j : ℕ) : EReal :=
  if h : i < 2048 ∧ j < 2048 then distance (x ⟨i, h.1⟩) (y ⟨j, h.2⟩) else 0

theorem distances_of {x y : Fin 2048 → Fin 128 → EReal} {i j : ℕ} (hi : i < 2048) (hj : j < 2048) :
    distances x y i j = distance (x ⟨i, hi⟩) (y ⟨j, hj⟩) := dif_pos ⟨hi, hj⟩

/-- The sum of the absolute differences of one batch. -/
def gap (a b : Fin 16 → Fin 2048 → Fin 128 → EReal) (n : Fin 16) : EReal :=
  ∑ q, ∑ f, max (a n q f - b n q f) (-(a n q f - b n q f))

/-- Half of the mean absolute error plus half of the dynamic program's last entry over the table's size. -/
def loss (a b : Fin 16 → Fin 2048 → Fin 128 → EReal) : EReal :=
  Ideal.ofBits .f32 0x3F000000#32 * Ideal.div (∑ n, gap a b n) (Ideal.ofBits .f32 0x4A800000#32)
    + Ideal.ofBits .f32 0x3F000000#32 * Ideal.div (row (distances (a 0) (b 0)) 2047 2047) (Ideal.ofBits .f32 0x48800000#32)

end Cert.Dp

end
-- ==== Proof.Point.lean ====
/-
  What one grid point reads and computes, over the extended reals: the three small tables, and the distances of its
  256 rows from all of the other argument's rows.
-/
module

public import proofs.«01_k».proof.Defs
public import proofs.«01_k».proof.Proof.Windows
public import proofs.«01_k».proof.Proof.BlockVal
public import proofs.«01_k».proof.Proof.Distance
public import proofs.«01_k».proof.Proof.Gen.Pre_finite

@[expose] public section

set_option maxRecDepth 16384

noncomputable section

namespace Cert.KernelIdeal.Dtw

open Idealize.ShloMosaic Idealize.ShloMosaic.TcCoe Idealize.SL.Sem
open Cert.KernelIdeal
open Cert.Dp

/-- An argument by its three places. -/
def entries (a : FVec Ideal S16x2048x128 .f32) (n : Fin 16) (q : Fin 2048) (f : Fin 128) : EReal := a (ValueIdx.ix3 n q f)

theorem exists_of_abs_lt {x : EReal} (h : max x (-x) < ⊤) : ∃ r : ℝ, x = r := by
  induction x using EReal.rec with
  | bot => simp at h
  | top => simp at h
  | coe r => exact ⟨r, rfl⟩

theorem of_lt_bits {x : EReal} (h : max x (-x) < Ideal.ofBits .f32 0x7F800000#32) : ∃ r : ℝ, x = r :=
  exists_of_abs_lt (lt_of_lt_of_le h le_top)

theorem both_of_and {p q : Prop} [Decidable p] [Decidable q]
    (h : IntOp.andi (BitVec.ofBool (decide p)) (BitVec.ofBool (decide q)) = 1#1) : p ∧ q := by
  by_cases hp : p <;> by_cases hq : q <;> simp [hp, hq, IntOp.andi] at h ⊢

/-- The precondition says that both arguments' first batches are real numbers. -/
theorem finite_entries (a b : FVec Ideal S16x2048x128 .f32) (h : Cert.Pre_finite.fn a b = fun _ => 1#1) (q : Fin 2048) (f : Fin 128) :
    (∃ r : ℝ, entries a 0 q f = r) ∧ ∃ r : ℝ, entries b 0 q f = r := by
  have e := congrFun h (ValueIdx.ix2 q f)
  unfold Cert.Pre_finite.fn at e
  revert e
  pointwise
  intro e
  obtain ⟨ha, hb⟩ := both_of_and e
  exact ⟨of_lt_bits ha, of_lt_bits hb⟩

/-- The distances as the point computes them. -/
theorem pay1018_apply (x : FVec Ideal S256x128 .f32) (y : FVec Ideal S2048x128 .f32)
    (hx : ∀ r f, ∃ e : ℝ, x (ValueIdx.ix2 r f) = (e : EReal)) (hy : ∀ r f, ∃ e : ℝ, y (ValueIdx.ix2 r f) = (e : EReal)) (r : Fin 256) (q : Fin 2048) :
    Gen.k0_pay1018 (F := Ideal) x y (ValueIdx.ix2 r q) = distance (fun k => x (ValueIdx.ix2 r k)) (fun k => y (ValueIdx.ix2 q k)) := by
  unfold Gen.k0_pay1018 distance
  rw [← sum_square _ _ (hx r) (hy q)]
  pointwise
  rfl

/-- The absolute differences of the point's two batches, on top of what was there. -/
theorem pay1017_apply (x y : FVec Ideal S2x2048x128 .f32) (a : EReal) :
    Gen.k0_pay1017 (F := Ideal) x y a
      = a + ∑ n : Fin 2, ∑ q : Fin 2048, ∑ f : Fin 128,
          max (x (ValueIdx.ix3 n q f) - y (ValueIdx.ix3 n q f)) (-(x (ValueIdx.ix3 n q f) - y (ValueIdx.ix3 n q f))) := by
  unfold Gen.k0_pay1017
  pointwise
  rw [Ideal.reduceAdd_total _ (fun b => by fin_cases b; rfl), sum_idx4, Fin.sum_univ_one]
  refine congrArg (fun e : EReal => a + e) (Finset.sum_congr rfl fun n _ => Finset.sum_congr rfl fun q _ => Finset.sum_congr rfl fun f _ => ?_)
  pointwise
  rfl

/-- The result as the last point computes it. -/
theorem pay11_apply (x : FVec Ideal S8x256 .f32) (a : EReal) (j : S1x1.Idx) :
    Gen.k0_pay11 (F := Ideal) x a j
      = Ideal.ofBits .f32 0x3F000000#32 * Ideal.div a (Ideal.ofBits .f32 0x4A800000#32)
        + Ideal.ofBits .f32 0x3F000000#32 * Ideal.div (x (ValueIdx.ix2 7 255)) (Ideal.ofBits .f32 0x48800000#32) := by
  unfold Gen.k0_pay11
  pointwise
  rfl

variable (m : (ℓ : Loc nD τ sig) → Buf (Elt Ideal) ℓ)

theorem bit_eq (p : Prop) [Decidable p] :
    (FloatOps.uitofp (F := Ideal) .f32 (BitVec.ofBool (decide p)) : EReal) = if p then (1 : EReal) else 0 := by
  show (((BitVec.ofBool (decide p)).toNat : ℝ) : EReal) = _
  by_cases h : p <;> simp [h]

theorem isPerm_block4 (c : Dev nD) (t : Fin cfg0.N) : IsPerm (Gen.iblk m c 4 t : FVec Ideal S64x64 .f32) := by
  intro a k
  refine (block4_at m c t a k).trans ((perm_at m c a k).trans ((bit_eq _).trans ?_))
  exact if_congr (by omega) rfl rfl

theorem isLow_block5 (c : Dev nD) (t : Fin cfg0.N) : IsLow (Gen.iblk m c 5 t : FVec Ideal S64x64 .f32) := by
  intro a k
  refine (block5_at m c t a k).trans ((low_cols_at m c a k).trans (bit_eq _))

theorem isUex_block6 (c : Dev nD) (t : Fin cfg0.N) : IsUex (Gen.iblk m c 6 t : FVec Ideal S256x256 .f32) := by
  intro a k
  refine (block6_at m c t a k).trans ((uex_at m c a k).trans (bit_eq _))

/-- The strips of a point's distances are 256 rows of the table. -/
theorem holds_strips (c : Dev nD) (t : Fin cfg0.N)
    (h : Cert.Pre_finite.fn (F := Ideal) (m ((c : Thread nD τ).loc main_arg0)) (m ((c : Thread nD τ).loc main_arg1)) = fun _ => 1#1) :
    HoldsStrips (strips (Gen.k0_pay1018 (F := Ideal) (Gen.iblk m c 2 t) (Gen.iblk m c 3 t)))
      (distances (entries (m ((c : Thread nD τ).loc main_arg0)) 0) (entries (m ((c : Thread nD τ).loc main_arg1)) 0)) (256 * t.val) := by
  have hx : ∀ r f, (Gen.iblk m c 2 t : FVec Ideal S256x128 .f32) (ValueIdx.ix2 r f)
      = entries (m ((c : Thread nD τ).loc main_arg0)) 0 ⟨256 * t.val + r.val, by have := lt8 t; omega⟩ f :=
    fun r f => (block2_at m c t r f).trans (x_at m c _ f)
  have hy : ∀ q f, (Gen.iblk m c 3 t : FVec Ideal S2048x128 .f32) (ValueIdx.ix2 q f)
      = entries (m ((c : Thread nD τ).loc main_arg1)) 0 ⟨(q.val % 256) * 8 + q.val / 256, by omega⟩ f :=
    fun q f => (block3_at m c t q f).trans (rows_at m c q f)
  intro s r l
  refine (pay1018_apply _ _ (fun r f => ?_) (fun q f => ?_) r ⟨256 * s.val + l.val, by omega⟩).trans ?_
  · rw [hx]
    exact (finite_entries _ _ h _ f).1
  · rw [hy]
    exact (finite_entries _ _ h _ f).2
  · rw [distances_of (by have := lt8 t; omega) (by omega)]
    refine congrArg₂ distance (funext fun k => hx r k) (funext fun k => (hy _ k).trans ?_)
    refine congrArg (fun q => entries (m ((c : Thread nD τ).loc main_arg1)) 0 q k) (Fin.ext ?_)
    show (256 * s.val + l.val) % 256 * 8 + (256 * s.val + l.val) / 256 = 8 * l.val + s.val
    omega

end Cert.KernelIdeal.Dtw
end
-- ==== Proof.TripEq.lean ====
/-
  One trip of the kernel's row loop, as the generated run states it, is one block of the sweep.
-/
module

public import proofs.«01_k».proof.Proof.Tile
public import proofs.«01_k».proof.Proof.Gen.KernelIdeal.Frame

@[expose] public section

noncomputable section

namespace Cert.KernelIdeal.Dtw

open Idealize.ShloMosaic Idealize.ShloMosaic.TcCoe Idealize.SL.Sem
open Cert.KernelIdeal Cert.KernelIdeal.Gen

variable {F : FTy → Type} [FloatOps F] [Named F]

/-- The 8 × 8 × 256 block that trip `k` loads. -/
def blk1 (i : grid0.Coords) (arg9 : Memref sig .tc .vmem S8x256x256 .f32) (X : BufTy.Contents (Elt F) arg9.view.ty)
    (k : Fin (k0_t1_loop i).trips) : FVec F S8x8x256 .f32 :=
  View.readAt (Elt F) arg9.view
    (Rect.unit (s := S8x256x256) (k0_off1 i k) S8x8x256.size (Facts₀.k0_off1_inb i k)).toLoadRect X

set_option maxRecDepth 100000 in
theorem trip_eq (𝒱 : Variants) (c : Dev nD) (bd : Option 𝒱.V) (i : grid0.Coords) (arg1 : Memref sig .tc .vmem S2x2048x128 .f32) (harg1 : arg1.IsWhole) (arg2 : Memref sig .tc .vmem S2x2048x128 .f32) (harg2 : arg2.IsWhole) (arg3 : Memref sig .tc .vmem S256x128 .f32) (harg3 : arg3.IsWhole) (arg4 : Memref sig .tc .vmem S2048x128 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S256x256 .f32) (harg7 : arg7.IsWhole) (arg8 : Memref sig .tc .vmem S1x1 .f32) (harg8 : arg8.IsWhole) (arg9 : Memref sig .tc .vmem S8x256x256 .f32) (harg9 : arg9.IsWhole) (arg10 : Memref sig .tc .vmem S8x256 .f32) (harg10 : arg10.IsWhole) (arg11 : Memref sig .tc .smem S1 .f32) (harg11 : arg11.IsWhole) (v66 : Vec F S64x64 .f32) (v68 : Vec F S64x64 .f32) (v70 : Vec F S256x256 .f32) (v76 : BitVec 32) (X : BufTy.Contents (Elt F) arg9.view.ty) (k : Fin (k0_t1_loop i).trips) (acc : Vec F S8x256 .f32) :
    tripR_k0_t1 (F := F) 𝒱 c bd i arg1 harg1 arg2 harg2 arg3 harg3 arg4 harg4 arg5 harg5 arg6 harg6 arg7 harg7 arg8 harg8 arg9 harg9 arg10 harg10 arg11 harg11 v66 v68 v70 v76 X k acc
      = block8 (k0_pay2 v66) (k0_pay3 v68) (k0_pay4 v70) (blk1 i arg9 X k) acc := by
  unfold tripR_k0_t1 trip_k0_t1
  chain_rfl

end Cert.KernelIdeal.Dtw

end
-- ==== Proof.Sweep.lean ====
/-
  What the loops and the stores of one grid point leave, in terms of the tile's own arithmetic.
-/
module

public import proofs.«01_k».proof.Proof.TripEq
public import proofs.«01_k».proof.Proof.Gen.KernelIdeal.Value
public import Idealize.ShloMosaic.Lib.Pipeline.ValueKit

@[expose] public section

noncomputable section

namespace Cert.KernelIdeal.Dtw

open Idealize.ShloMosaic Idealize.ShloMosaic.TcCoe Idealize.SL.Sem Idealize.ShloMosaic.ValueIdx
open Cert.KernelIdeal Cert.KernelIdeal.Gen

variable {F : FTy → Type} [FloatOps F] [Named F]

/-- The first block of a point's sweep: point 0 starts at its second block, the others at their first. -/
def startAt (i : grid0.Coords) : ℕ := if (i 0).val = 0 then 1 else 0

theorem blk1_eq (i : grid0.Coords) (arg9 : Memref sig .tc .vmem S8x256x256 .f32) (X : BufTy.Contents (Elt F) arg9.view.ty)
    (k : Fin (k0_t1_loop i).trips) : blk1 i arg9 X k = blkOf (arg9.view.read (Elt F) X) (startAt i + k.val) := by
  funext j
  unfold blk1 blkOf
  rw [View.readAt_eq_ld, View.ld_unit]
  have hoff : k0_off1 i k = ![0, 8 * startAt i + 8 * k.val, 0] := k0_off1_eq i k
  have hinb := Facts₀.k0_off1_inb i k 1
  rw [hoff] at hinb
  have hj : (j 1).val < 8 := (j 1).isLt
  have hb : 8 * startAt i + 8 * k.val + 8 ≤ 256 := hinb
  unfold extractStridedSlice
  congr 1
  funext a
  apply Fin.ext
  fin_cases a
  · simp [hoff]
  · simp [hoff]; omega
  · simp [hoff]

/-- What is stored of strip `k`: its 256 columns. -/
def stripPay (D : FVec F S256x2048 .f32) (k : Fin 8) : FVec F S1x256x256 .f32 :=
  shapeCast S1x256x256
    (extractStridedSlice S256x256 ![0, 256 * k.val] D
      ⟨rfl, by intro a; have := k.isLt; fin_cases a <;> simp <;> omega⟩) shapeCasts_S256x256_S1x256x256

theorem stripPay_apply (D : FVec F S256x2048 .f32) (k : Fin 8) (x : S1x256x256.Idx) (q : S256x2048.Idx)
    (h0 : (q 0).val = (x 1).val) (h1 : (q 1).val = 256 * k.val + (x 2).val) : stripPay D k x = D q := by
  have l0 : (x 0).val < 1 := (x 0).isLt
  unfold stripPay
  refine (shapeCast_apply _ _ x (ValueIdx.ix2 (x 1) (x 2)) ?_).trans ?_
  · rw [Shape.rowMajor_val_two, Shape.rowMajor_val_three]
    show (x 1).val * 256 + (x 2).val = ((x 0).val * 256 + (x 1).val) * 256 + (x 2).val
    omega
  · unfold extractStridedSlice
    congr 1
    funext a
    apply Fin.ext
    fin_cases a
    · show 0 + (x 1).val = (q 0).val; omega
    · show 256 * k.val + (x 2).val = (q 1).val; omega

/-- The eight stores of a distance tile, last first. -/
def stripPieces (D : FVec F S256x2048 .f32) : List (View.Piece (Elt F) S8x256x256 .f32) :=
  List.ofFn fun k : Fin 8 => ⟨Rect.unit (s := S8x256x256) ![7 - k.val, 0, 0] S1x256x256.size
    (by intro a; have := k.isLt; fin_cases a <;> simp; omega), stripPay D ⟨7 - k.val, by omega⟩⟩

theorem strips_cover (D : FVec F S256x2048 .f32) (y : S8x256x256.Idx) : ∃ p ∈ stripPieces D, y ∈ p.1.set := by
  have y0 : (y 0).val < 8 := (y 0).isLt
  have y1 : (y 1).val < 256 := (y 1).isLt
  have y2 : (y 2).val < 256 := (y 2).isLt
  refine ⟨_, (List.mem_ofFn).mpr ⟨⟨7 - (y 0).val, by omega⟩, rfl⟩, ?_⟩
  apply (Rect.mem_set_unit (inb := by intro a; fin_cases a <;> simp; omega)).mpr
  intro a
  fin_cases a <;> simp <;> omega

theorem strips_canon (D : FVec F S256x2048 .f32) : View.canon (stripPieces D) = strips D := by
  funext y
  refine View.canon_eq_of_allAt _ y _ (strips_cover D y) ?_
  intro p hp x hx
  obtain ⟨k, rfl⟩ := (List.mem_ofFn).mp hp
  have e0 : (y 0).val = (7 - k.val) + 1 * (x 0).val := by rw [← hx]; rfl
  have e1 : (y 1).val = 0 + 1 * (x 1).val := by rw [← hx]; rfl
  have e2 : (y 2).val = 0 + 1 * (x 2).val := by rw [← hx]; rfl
  have l0 : (x 0).val < 1 := (x 0).isLt
  have l1 : (x 1).val < 256 := (x 1).isLt
  have l2 : (x 2).val < 256 := (x 2).isLt
  refine stripPay_apply D _ x _ ?_ ?_
  · show (y 1).val = (x 1).val; omega
  · show 256 * (y 0).val + (y 2).val = 256 * (7 - k.val) + (x 2).val; omega

variable (c : Dev nD) (i : grid0.Coords) (arg1 : Memref sig .tc .vmem S2x2048x128 .f32) (harg1 : arg1.IsWhole) (arg2 : Memref sig .tc .vmem S2x2048x128 .f32) (harg2 : arg2.IsWhole) (arg3 : Memref sig .tc .vmem S256x128 .f32) (harg3 : arg3.IsWhole) (arg4 : Memref sig .tc .vmem S2048x128 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S256x256 .f32) (harg7 : arg7.IsWhole) (arg8 : Memref sig .tc .vmem S1x1 .f32) (harg8 : arg8.IsWhole) (arg9 : Memref sig .tc .vmem S8x256x256 .f32) (harg9 : arg9.IsWhole) (arg10 : Memref sig .tc .vmem S8x256 .f32) (harg10 : arg10.IsWhole) (arg11 : Memref sig .tc .smem S1 .f32) (harg11 : arg11.IsWhole)

theorem loop1_eq (v66 v68 : Vec F S64x64 .f32) (v70 : Vec F S256x256 .f32) (v76 : BitVec 32)
    (X : BufTy.Contents (Elt F) arg9.view.ty) (init : Vec F S8x256 .f32) (k : ℕ) (hk : k ≤ (k0_t1_loop i).trips) :
    st_k0_t1 (F := F) Variants.none c none i arg1 harg1 arg2 harg2 arg3 harg3 arg4 harg4 arg5 harg5 arg6 harg6 arg7 harg7 arg8 harg8 arg9 harg9 arg10 harg10 arg11 harg11 v66 v68 v70 v76 X init k
      = sweep (k0_pay2 v66) (k0_pay3 v68) (k0_pay4 v70) (arg9.view.read (Elt F) X) (startAt i) init k := by
  induction k with
  | zero => rfl
  | succ k ih =>
    rw [st_k0_t1_succ Variants.none c none i arg1 harg1 arg2 harg2 arg3 harg3 arg4 harg4 arg5 harg5 arg6 harg6 arg7 harg7 arg8 harg8 arg9 harg9 arg10 harg10 arg11 harg11 v66 v68 v70 v76 X init ⟨k, hk⟩, trip_eq, blk1_eq, ih (by omega)]
    rfl

theorem loop2_eq (v66 v68 : Vec F S64x64 .f32) (v70 : Vec F S256x256 .f32) (v76 : BitVec 32)
    (X : BufTy.Contents (Elt F) arg9.view.ty) (init : Vec F S8x256 .f32) :
    st_k0_t2 (F := F) Variants.none c none i arg1 harg1 arg2 harg2 arg3 harg3 arg4 harg4 arg5 harg5 arg6 harg6 arg7 harg7 arg8 harg8 arg9 harg9 arg10 harg10 arg11 harg11 v66 v68 v70 v76 X init (k0_t2_loop i).trips = init := by
  rw [Nat.le_zero.mp (k0_t2_abs i).2.1, st_k0_t2_zero]

variable (x0 x1 : Vec F S2x2048x128 .f32) (x2 : Vec F S256x128 .f32) (x3 : Vec F S2048x128 .f32) (x4 x5 : Vec F S64x64 .f32)
  (x6 : Vec F S256x256 .f32) (xs1 : Vec F S8x256 .f32) (xs2 : Vec F S1 .f32)

theorem readWhole {S : Shape} {e : EltTy} {sp : Space} (a : Memref sig .tc sp S e) (h : a.IsWhole) (off : Fin S.rank → ℕ)
    (hoff : ∀ d, off d = 0) (inb : ∀ d, off d + S.size d ≤ S.size d) (x : S.Idx → Elt F e) :
    View.readAt (Elt F) a.view (Rect.unit off S.size inb).toLoadRect (h.unread x) = x := by
  rw [View.readAt_eq_ld, Memref.IsWhole.read_unread]; exact View.ld_unit_lit inb x hoff

theorem read_strips (D : FVec F S256x2048 .f32) :
    arg9.view.read (Elt F) (arg9.view.writes (Elt F) arg9.view.junk (stripPieces D)) = strips D := by
  rw [View.read_writes_eq_canon _ _ _ (strips_cover D), strips_canon]

/-- Where the first loop starts, as the kernel computes it. -/
def lbWord (i : grid0.Coords) : BitVec 32 := Scalar.select (Scalar.cmpi .eq (BitVec.ofNat 32 (i 0).val) 0#32) 1#32 0#32

/-- Where the second loop starts. -/
def ubWord (i : grid0.Coords) : BitVec 32 :=
  Scalar.addi (lbWord i) (Scalar.muli (Scalar.divsi (Scalar.subi 32#32 (lbWord i)) 1#32) 1#32)

/-- What the two loops leave from `init`, over the operands as loaded. -/
def loops (X : BufTy.Contents (Elt F) arg9.view.ty) (init : Vec F S8x256 .f32) : Vec F S8x256 .f32 :=
  st_k0_t2 (F := F) Variants.none c none i arg1 harg1 arg2 harg2 arg3 harg3 arg4 harg4 arg5 harg5 arg6 harg6 arg7 harg7 arg8 harg8 arg9 harg9 arg10 harg10 arg11 harg11
    (View.readAt (Elt F) arg5.view (Rect.unit ![0, 0] S64x64.size inb_S64x64_S64x64_0_0).toLoadRect (harg5.unread x4))
    (View.readAt (Elt F) arg6.view (Rect.unit ![0, 0] S64x64.size inb_S64x64_S64x64_0_0).toLoadRect (harg6.unread x5))
    (View.readAt (Elt F) arg7.view (Rect.unit ![0, 0] S256x256.size inb_S256x256_S256x256_0_0).toLoadRect (harg7.unread x6))
    (ubWord i) X
    (st_k0_t1 (F := F) Variants.none c none i arg1 harg1 arg2 harg2 arg3 harg3 arg4 harg4 arg5 harg5 arg6 harg6 arg7 harg7 arg8 harg8 arg9 harg9 arg10 harg10 arg11 harg11
      (View.readAt (Elt F) arg5.view (Rect.unit ![0, 0] S64x64.size inb_S64x64_S64x64_0_0).toLoadRect (harg5.unread x4))
      (View.readAt (Elt F) arg6.view (Rect.unit ![0, 0] S64x64.size inb_S64x64_S64x64_0_0).toLoadRect (harg6.unread x5))
      (View.readAt (Elt F) arg7.view (Rect.unit ![0, 0] S256x256.size inb_S256x256_S256x256_0_0).toLoadRect (harg7.unread x6))
      (lbWord i) X init (k0_t1_loop i).trips)
    (k0_t2_loop i).trips

theorem loops_eq (X : BufTy.Contents (Elt F) arg9.view.ty) (init : Vec F S8x256 .f32) :
    loops c i arg1 harg1 arg2 harg2 arg3 harg3 arg4 harg4 arg5 harg5 arg6 harg6 arg7 harg7 arg8 harg8 arg9 harg9 arg10 harg10 arg11 harg11 x4 x5 x6 X init
      = sweep (k0_pay2 x4) (k0_pay3 x5) (k0_pay4 x6) (arg9.view.read (Elt F) X) (startAt i) init (k0_t1_loop i).trips := by
  unfold loops
  rw [loop2_eq, loop1_eq c i arg1 harg1 arg2 harg2 arg3 harg3 arg4 harg4 arg5 harg5 arg6 harg6 arg7 harg7 arg8 harg8 arg9 harg9 arg10 harg10 arg11 harg11 _ _ _ _ _ _ _ le_rfl, readWhole, readWhole, readWhole]
  all_goals (intro d; fin_cases d <;> rfl)

theorem piecesA : kernelRun0_A.sl.HS0_8 (F := F) c arg3 harg3 arg4 harg4 x2 x3 = stripPieces (k0_pay1018 x2 x3) := by
  have h : kernelRun0_A.sl.HS0_8 (F := F) c arg3 harg3 arg4 harg4 x2 x3
      = stripPieces (k0_pay1018
          (View.readAt (Elt F) arg3.view (Rect.unit ![0, 0] S256x128.size inb_S256x128_S256x128_0_0).toLoadRect (harg3.unread x2))
          (View.readAt (Elt F) arg4.view (Rect.unit ![0, 0] S2048x128.size inb_S2048x128_S2048x128_0_0).toLoadRect (harg4.unread x3))) := by
    chain_rfl
  rw [h, readWhole _ _ _ (by intro d; fin_cases d <;> rfl), readWhole _ _ _ (by intro d; fin_cases d <;> rfl)]

theorem v77_eq : kernelRun0_A.sl.v77 (F := F) c arg3 harg3 arg4 harg4 arg5 harg5 arg6 harg6 arg7 harg7 arg9 arg10 x2 x3 x4 x5 x6
    = shapeCast S8x256 (block8Init (k0_pay2 x4) (k0_pay3 x5) (k0_pay4 x6) (blkOf (strips (k0_pay1018 x2 x3)) 0)) shapeCasts_S8x256_S8x256 := by
  have h : kernelRun0_A.sl.v77 (F := F) c arg3 harg3 arg4 harg4 arg5 harg5 arg6 harg6 arg7 harg7 arg9 arg10 x2 x3 x4 x5 x6
      = arg10.view.readCov [⟨Rect.unit ![0, 0] S8x256.size inb_S8x256_S8x256_0_0, shapeCast S8x256 (block8Init
          (k0_pay2 (View.readAt (Elt F) arg5.view (Rect.unit ![0, 0] S64x64.size inb_S64x64_S64x64_0_0).toLoadRect (harg5.unread x4)))
          (k0_pay3 (View.readAt (Elt F) arg6.view (Rect.unit ![0, 0] S64x64.size inb_S64x64_S64x64_0_0).toLoadRect (harg6.unread x5)))
          (k0_pay4 (View.readAt (Elt F) arg7.view (Rect.unit ![0, 0] S256x256.size inb_S256x256_S256x256_0_0).toLoadRect (harg7.unread x6)))
          (arg9.view.readCov (kernelRun0_A.sl.HS0_8 (F := F) c arg3 harg3 arg4 harg4 x2 x3)
            (Rect.unit (s := S8x256x256) ![0, 0, 0] S8x8x256.size inb_S8x256x256_S8x8x256_0_0_0).toLoadRect)) shapeCasts_S8x256_S8x256⟩]
          (Rect.unit ![0, 0] S8x256.size inb_S8x256_S8x256_0_0).toLoadRect := by
    chain_rfl
  have hb : arg9.view.readCov (Val := Elt F) (stripPieces (k0_pay1018 x2 x3)) (Rect.unit (s := S8x256x256) ![0, 0, 0] S8x8x256.size inb_S8x256x256_S8x8x256_0_0_0).toLoadRect
      = blkOf (strips (k0_pay1018 x2 x3)) 0 := by
    rw [View.readCov_eq_canon _ _ _ (fun j => strips_cover _ _), strips_canon]
    funext j
    unfold blkOf
    congr 1
    funext a
    apply Fin.ext
    have l1 : (j 1).val < 8 := (j 1).isLt
    fin_cases a
    · show 0 + 1 * (j 0).val = (j 0).val; omega
    · show 0 + 1 * (j 1).val = (8 * 0 + (j 1).val) % 256; omega
    · show 0 + 1 * (j 2).val = (j 2).val; omega
  rw [h, View.readCov_unit_lit _ _ _ (by intro d; fin_cases d <;> rfl), piecesA, hb, readWhole _ _ _ (by intro d; fin_cases d <;> rfl),
    readWhole _ _ _ (by intro d; fin_cases d <;> rfl), readWhole _ _ _ (by intro d; fin_cases d <;> rfl)]

theorem sout0_A_1_eq (hc0 : cond0_0 i) (hc1 : cond0_1 i) (hc2 : ¬cond0_2 i) :
    sout0_A_1 c i arg1 harg1 arg2 harg2 arg3 harg3 arg4 harg4 arg5 harg5 arg6 harg6 arg7 harg7 arg8 harg8 arg9 harg9 arg10 harg10 arg11 harg11 hc0 hc1 hc2 x0 x1 x2 x3 x4 x5 x6
      = k0_pay10 (sweep (k0_pay2 x4) (k0_pay3 x5) (k0_pay4 x6) (strips (k0_pay1018 x2 x3)) (startAt i) (shapeCast S8x256 (block8Init (k0_pay2 x4) (k0_pay3 x5) (k0_pay4 x6) (blkOf (strips (k0_pay1018 x2 x3)) 0)) shapeCasts_S8x256_S8x256) (k0_t1_loop i).trips) := by
  have h : (kernelRun0_A (F := F) c i arg1 harg1 arg2 harg2 arg3 harg3 arg4 harg4 arg5 harg5 arg6 harg6 arg7 harg7 arg8 harg8 arg9 harg9 arg10 harg10 arg11 harg11 hc0 hc1 hc2 x0 x1 x2 x3 x4 x5 x6).2.1
      = ⟨Rect.unit ![0, 0] S8x256.size inb_S8x256_S8x256_0_0, k0_pay10 (loops c i arg1 harg1 arg2 harg2 arg3 harg3 arg4 harg4 arg5 harg5 arg6 harg6 arg7 harg7 arg8 harg8 arg9 harg9 arg10 harg10 arg11 harg11 x4 x5 x6
          (arg9.view.writes (Elt F) arg9.view.junk (kernelRun0_A.sl.HS0_8 (F := F) c arg3 harg3 arg4 harg4 x2 x3))
          (kernelRun0_A.sl.v77 c arg3 harg3 arg4 harg4 arg5 harg5 arg6 harg6 arg7 harg7 arg9 arg10 x2 x3 x4 x5 x6))⟩ :: kernelRun0_A.sl.HS1_1 c arg3 harg3 arg4 harg4 arg5 harg5 arg6 harg6 arg7 harg7 arg9 x2 x3 x4 x5 x6 := by
    unfold kernelRun0_A; chain_rfl
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 hc0 hc1 hc2 x0 x1 x2 x3 x4 x5 x6), h,
    View.canon_cons_unit_lit _ _ _ (by intro d; fin_cases d <;> rfl), loops_eq, piecesA, read_strips,
    v77_eq]

theorem sout0_A_2_eq (hc0 : cond0_0 i) (hc1 : cond0_1 i) (hc2 : ¬cond0_2 i) :
    sout0_A_2 c i arg1 harg1 arg2 harg2 arg3 harg3 arg4 harg4 arg5 harg5 arg6 harg6 arg7 harg7 arg8 harg8 arg9 harg9 arg10 harg10 arg11 harg11 hc0 hc1 hc2 x0 x1 x2 x3 x4 x5 x6 = fun _ => k0_pay1017 x0 x1 (Scalar.ofBits .f32 0x00000000#32) := by
  have h : (kernelRun0_A (F := F) c i arg1 harg1 arg2 harg2 arg3 harg3 arg4 harg4 arg5 harg5 arg6 harg6 arg7 harg7 arg8 harg8 arg9 harg9 arg10 harg10 arg11 harg11 hc0 hc1 hc2 x0 x1 x2 x3 x4 x5 x6).2.2.1
      = ⟨Rect.unit ![0] S1.size inb_S1_S1_0, fun _ => k0_pay1017
          (View.readAt (Elt F) arg1.view (Rect.unit ![0, 0, 0] S2x2048x128.size inb_S2x2048x128_S2x2048x128_0_0_0).toLoadRect (harg1.unread x0))
          (View.readAt (Elt F) arg2.view (Rect.unit ![0, 0, 0] S2x2048x128.size inb_S2x2048x128_S2x2048x128_0_0_0).toLoadRect (harg2.unread x1))
          (Scalar.ofBits .f32 0x00000000#32)⟩ :: [⟨Rect.unit ![0] S1.size inb_S1_S1_0, fun _ => kernelRun0_A.sl.cst_54⟩] := by
    unfold kernelRun0_A; chain_rfl
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 hc0 hc1 hc2 x0 x1 x2 x3 x4 x5 x6), h,
    View.canon_cons_unit_lit _ _ _ (by intro d; fin_cases d <;> rfl), readWhole _ _ _ (by intro d; fin_cases d <;> rfl),
    readWhole _ _ _ (by intro d; fin_cases d <;> rfl)]
  rfl

theorem piecesB : kernelRun0_B.sl.HS0_8 (F := F) c arg3 harg3 arg4 harg4 x2 x3 = stripPieces (k0_pay1018 x2 x3) := by
  have h : kernelRun0_B.sl.HS0_8 (F := F) c arg3 harg3 arg4 harg4 x2 x3
      = stripPieces (k0_pay1018
          (View.readAt (Elt F) arg3.view (Rect.unit ![0, 0] S256x128.size inb_S256x128_S256x128_0_0).toLoadRect (harg3.unread x2))
          (View.readAt (Elt F) arg4.view (Rect.unit ![0, 0] S2048x128.size inb_S2048x128_S2048x128_0_0).toLoadRect (harg4.unread x3))) := by
    chain_rfl
  rw [h, readWhole _ _ _ (by intro d; fin_cases d <;> rfl), readWhole _ _ _ (by intro d; fin_cases d <;> rfl)]

theorem sout0_B_1_eq (hc0 : ¬cond0_0 i) (hc1 : ¬cond0_1 i) (hc2 : ¬cond0_2 i) :
    sout0_B_1 c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs1 xs2
      = k0_pay10 (sweep (k0_pay2 x4) (k0_pay3 x5) (k0_pay4 x6) (strips (k0_pay1018 x2 x3)) (startAt i) xs1 (k0_t1_loop i).trips) := by
  have h : (kernelRun0_B (F := F) c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs1 xs2).2.1
      = ⟨Rect.unit ![0, 0] S8x256.size inb_S8x256_S8x256_0_0, k0_pay10 (loops c i arg1 harg1 arg2 harg2 arg3 harg3 arg4 harg4 arg5 harg5 arg6 harg6 arg7 harg7 arg8 harg8 arg9 harg9 arg10 harg10 arg11 harg11 x4 x5 x6
          (arg9.view.writes (Elt F) arg9.view.junk (kernelRun0_B.sl.HS0_8 (F := F) c arg3 harg3 arg4 harg4 x2 x3))
          (View.readAt (Elt F) arg10.view (Rect.unit ![0, 0] S8x256.size inb_S8x256_S8x256_0_0).toLoadRect (harg10.unread xs1)))⟩ :: [] := by
    unfold kernelRun0_B; chain_rfl
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs1 xs2), h,
    View.canon_cons_unit_lit _ _ _ (by intro d; fin_cases d <;> rfl), loops_eq, piecesB, read_strips,
    readWhole _ _ _ (by intro d; fin_cases d <;> rfl)]

theorem sout0_B_2_eq (hc0 : ¬cond0_0 i) (hc1 : ¬cond0_1 i) (hc2 : ¬cond0_2 i) :
    sout0_B_2 c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs1 xs2 = fun _ => k0_pay1017 x0 x1 (xs2 (Shape.Idx.first (by decide))) := by
  have h : (kernelRun0_B (F := F) c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs1 xs2).2.2.1
      = ⟨Rect.unit ![0] S1.size inb_S1_S1_0, fun _ => k0_pay1017
          (View.readAt (Elt F) arg1.view (Rect.unit ![0, 0, 0] S2x2048x128.size inb_S2x2048x128_S2x2048x128_0_0_0).toLoadRect (harg1.unread x0))
          (View.readAt (Elt F) arg2.view (Rect.unit ![0, 0, 0] S2x2048x128.size inb_S2x2048x128_S2x2048x128_0_0_0).toLoadRect (harg2.unread x1))
          (View.readAt (Elt F) arg11.view (Rect.unit ![0] S1.size inb_S1_S1_0).toLoadRect (harg11.unread xs2) (Shape.Idx.first (by decide)))⟩ :: [] := by
    unfold kernelRun0_B; chain_rfl
  unfold sout0_B_2
  rw [View.read_writes_eq_canon _ _ _ (scover0_B_2 c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs1 xs2), h,
    View.canon_cons_unit_lit _ _ _ (by intro d; fin_cases d <;> rfl), readWhole _ _ _ (by intro d; fin_cases d <;> rfl),
    readWhole _ _ _ (by intro d; fin_cases d <;> rfl), readWhole _ _ _ (by intro d; fin_cases d <;> rfl)]
  rfl

theorem piecesC : kernelRun0_C.sl.HS0_8 (F := F) c arg3 harg3 arg4 harg4 x2 x3 = stripPieces (k0_pay1018 x2 x3) := by
  have h : kernelRun0_C.sl.HS0_8 (F := F) c arg3 harg3 arg4 harg4 x2 x3
      = stripPieces (k0_pay1018
          (View.readAt (Elt F) arg3.view (Rect.unit ![0, 0] S256x128.size inb_S256x128_S256x128_0_0).toLoadRect (harg3.unread x2))
          (View.readAt (Elt F) arg4.view (Rect.unit ![0, 0] S2048x128.size inb_S2048x128_S2048x128_0_0).toLoadRect (harg4.unread x3))) := by
    chain_rfl
  rw [h, readWhole _ _ _ (by intro d; fin_cases d <;> rfl), readWhole _ _ _ (by intro d; fin_cases d <;> rfl)]

theorem sout0_C_1_eq (hc0 : ¬cond0_0 i) (hc1 : ¬cond0_1 i) (hc2 : cond0_2 i) :
    sout0_C_1 c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs1 xs2
      = k0_pay10 (sweep (k0_pay2 x4) (k0_pay3 x5) (k0_pay4 x6) (strips (k0_pay1018 x2 x3)) (startAt i) xs1 (k0_t1_loop i).trips) := by
  have h : (kernelRun0_C (F := F) c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs1 xs2).2.1
      = ⟨Rect.unit ![0, 0] S8x256.size inb_S8x256_S8x256_0_0, k0_pay10 (loops c i arg1 harg1 arg2 harg2 arg3 harg3 arg4 harg4 arg5 harg5 arg6 harg6 arg7 harg7 arg8 harg8 arg9 harg9 arg10 harg10 arg11 harg11 x4 x5 x6
          (arg9.view.writes (Elt F) arg9.view.junk (kernelRun0_C.sl.HS0_8 (F := F) c arg3 harg3 arg4 harg4 x2 x3))
          (View.readAt (Elt F) arg10.view (Rect.unit ![0, 0] S8x256.size inb_S8x256_S8x256_0_0).toLoadRect (harg10.unread xs1)))⟩ :: [] := by
    unfold kernelRun0_C; chain_rfl
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs1 xs2), h,
    View.canon_cons_unit_lit _ _ _ (by intro d; fin_cases d <;> rfl), loops_eq, piecesC, read_strips,
    readWhole _ _ _ (by intro d; fin_cases d <;> rfl)]

theorem sout0_C_2_eq (hc0 : ¬cond0_0 i) (hc1 : ¬cond0_1 i) (hc2 : cond0_2 i) :
    sout0_C_2 c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs1 xs2 = fun _ => k0_pay1017 x0 x1 (xs2 (Shape.Idx.first (by decide))) := by
  have h : (kernelRun0_C (F := F) c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs1 xs2).2.2.1
      = ⟨Rect.unit ![0] S1.size inb_S1_S1_0, fun _ => k0_pay1017
          (View.readAt (Elt F) arg1.view (Rect.unit ![0, 0, 0] S2x2048x128.size inb_S2x2048x128_S2x2048x128_0_0_0).toLoadRect (harg1.unread x0))
          (View.readAt (Elt F) arg2.view (Rect.unit ![0, 0, 0] S2x2048x128.size inb_S2x2048x128_S2x2048x128_0_0_0).toLoadRect (harg2.unread x1))
          (View.readAt (Elt F) arg11.view (Rect.unit ![0] S1.size inb_S1_S1_0).toLoadRect (harg11.unread xs2) (Shape.Idx.first (by decide)))⟩ :: [] := by
    unfold kernelRun0_C; chain_rfl
  unfold sout0_C_2
  rw [View.read_writes_eq_canon _ _ _ (scover0_C_2 c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs1 xs2), h,
    View.canon_cons_unit_lit _ _ _ (by intro d; fin_cases d <;> rfl), readWhole _ _ _ (by intro d; fin_cases d <;> rfl),
    readWhole _ _ _ (by intro d; fin_cases d <;> rfl), readWhole _ _ _ (by intro d; fin_cases d <;> rfl)]
  rfl

theorem out0_C_7_eq (hc0 : ¬cond0_0 i) (hc1 : ¬cond0_1 i) (hc2 : cond0_2 i) :
    out0_C_7 c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs1 xs2
      = k0_pay11 (sweep (k0_pay2 x4) (k0_pay3 x5) (k0_pay4 x6) (strips (k0_pay1018 x2 x3)) (startAt i) xs1 (k0_t1_loop i).trips)
          (k0_pay1017 x0 x1 (xs2 (Shape.Idx.first (by decide)))) := by
  have h : (kernelRun0_C (F := F) c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs1 xs2).1
      = [⟨Rect.unit ![0, 0] S1x1.size inb_S1x1_S1x1_0_0, k0_pay11 (loops c i arg1 harg1 arg2 harg2 arg3 harg3 arg4 harg4 arg5 harg5 arg6 harg6 arg7 harg7 arg8 harg8 arg9 harg9 arg10 harg10 arg11 harg11 x4 x5 x6
          (arg9.view.writes (Elt F) arg9.view.junk (kernelRun0_C.sl.HS0_8 (F := F) c arg3 harg3 arg4 harg4 x2 x3))
          (View.readAt (Elt F) arg10.view (Rect.unit ![0, 0] S8x256.size inb_S8x256_S8x256_0_0).toLoadRect (harg10.unread xs1))) (k0_pay1017
          (View.readAt (Elt F) arg1.view (Rect.unit ![0, 0, 0] S2x2048x128.size inb_S2x2048x128_S2x2048x128_0_0_0).toLoadRect (harg1.unread x0))
          (View.readAt (Elt F) arg2.view (Rect.unit ![0, 0, 0] S2x2048x128.size inb_S2x2048x128_S2x2048x128_0_0_0).toLoadRect (harg2.unread x1))
          (View.readAt (Elt F) arg11.view (Rect.unit ![0] S1.size inb_S1_S1_0).toLoadRect (harg11.unread xs2) (Shape.Idx.first (by decide))))⟩] := by
    unfold kernelRun0_C; chain_rfl
  unfold out0_C_7
  rw [View.read_writes_eq_canon _ _ _ (cover0_C_7 c i arg1 harg1 arg2 harg2 arg3 harg3 arg4 harg4 arg5 harg5 arg6 harg6 arg7 harg7 arg8 harg8 arg9 harg9 arg10 harg10 arg11 harg11 hc0 hc1 hc2 x0 x1 x2 x3 x4 x5 x6 xs1 xs2), h,
    View.canon_cons_unit_lit _ _ _ (by intro d; fin_cases d <;> rfl), loops_eq, piecesC, read_strips,
    readWhole arg10 _ _ (by intro d; fin_cases d <;> rfl), readWhole arg1 _ _ (by intro d; fin_cases d <;> rfl),
    readWhole arg2 _ _ (by intro d; fin_cases d <;> rfl), readWhole arg11 _ _ (by intro d; fin_cases d <;> rfl)]

end Cert.KernelIdeal.Dtw
-- ==== Proof.GridStep.lean ====
/-
  What one grid point leaves in the carried row and in the carried sum, over what the point before left.
-/
module

public import proofs.«01_k».proof.Proof.Sweep

@[expose] public section

set_option maxRecDepth 16384

noncomputable section

namespace Cert.KernelIdeal.Dtw

open Idealize.ShloMosaic Idealize.ShloMosaic.TcCoe Idealize.SL.Sem
open Cert.KernelIdeal Cert.KernelIdeal.Gen Cert.KernelIdeal.Value

variable {F : FTy → Type} [FloatOps F] [Named F]
variable (m : (ℓ : Loc nD τ sig) → Buf (Elt F) ℓ) (c : Dev nD) (t : Fin cfg0.N)

theorem coord_eq : ∀ t : Fin cfg0.N, (grid0.coords t 0).val = t.val := by decide +kernel

theorem trips_eq : ∀ t : Fin cfg0.N, (k0_t1_loop (grid0.coords t)).trips = 32 - startAt (grid0.coords t) := by decide +kernel

/-- The distances of the point's 256 rows, in eight strips. -/
def dists : FVec F S8x256x256 .f32 := strips (k0_pay1018 (F := F) (iblk m c 2 t) (iblk m c 3 t))

/-- The point's blocks applied to a row. -/
def swept (init : FVec F S8x256 .f32) : FVec F S8x256 .f32 :=
  sweep (iblk m c 4 t) (iblk m c 5 t) (iblk m c 6 t) (dists m c t) (startAt (grid0.coords t)) init (32 - startAt (grid0.coords t))

/-- The first point's first block. -/
def begun : FVec F S8x256 .f32 :=
  block8Init (iblk m c 4 t) (iblk m c 5 t) (iblk m c 6 t) (blkOf (dists m c t) 0)

theorem pay2_self (x : FVec F S64x64 .f32) : k0_pay2 x = x := shapeCast_self x _
theorem pay3_self (x : FVec F S64x64 .f32) : k0_pay3 x = x := shapeCast_self x _
theorem pay4_self (x : FVec F S256x256 .f32) : k0_pay4 x = x := shapeCast_self x _
theorem pay10_self (x : FVec F S8x256 .f32) : k0_pay10 x = x := shapeCast_self x _

variable (acc : Vec F S1x1 .f32 × Vec F S8x256 .f32 × Vec F S1 .f32)

theorem rowA (h : t.val = 0) : (stAt0 m c t.val t.isLt acc).2.1 = swept m c t (begun m c t) := by
  rw [stAt0_A m c t acc (by omega) (by omega) (by omega)]
  dsimp only
  rw [sout0_A_1_eq, pay10_self, pay2_self, pay3_self, pay4_self, trips_eq, shapeCast_self]
  rfl

theorem rowB (h : t.val ≠ 0) (h7 : t.val < 7) : (stAt0 m c t.val t.isLt acc).2.1 = swept m c t acc.2.1 := by
  rw [stAt0_B m c t acc (by omega) (by omega) (by omega)]
  dsimp only
  rw [sout0_B_1_eq, pay10_self, pay2_self, pay3_self, pay4_self, trips_eq]
  rfl

theorem sumA (h : t.val = 0) : (stAt0 m c t.val t.isLt acc).2.2
    = fun _ => k0_pay1017 (iblk m c 0 t) (iblk m c 1 t) (Scalar.ofBits .f32 0x00000000#32) := by
  rw [stAt0_A m c t acc (by omega) (by omega) (by omega)]
  dsimp only
  rw [sout0_A_2_eq]

theorem sumB (h : t.val ≠ 0) (h7 : t.val < 7) : (stAt0 m c t.val t.isLt acc).2.2
    = fun _ => k0_pay1017 (iblk m c 0 t) (iblk m c 1 t) (acc.2.2 (Shape.Idx.first (by decide))) := by
  rw [stAt0_B m c t acc (by omega) (by omega) (by omega)]
  dsimp only
  rw [sout0_B_2_eq]

theorem outC (h7 : t.val = 7) : (stAt0 m c t.val t.isLt acc).1
    = k0_pay11 (swept m c t acc.2.1) (k0_pay1017 (iblk m c 0 t) (iblk m c 1 t) (acc.2.2 (Shape.Idx.first (by decide)))) := by
  rw [stAt0_C m c t acc (by omega) (by omega) (by omega)]
  dsimp only
  rw [out0_C_7_eq, pay2_self, pay3_self, pay4_self, trips_eq]
  rfl

end Cert.KernelIdeal.Dtw
end
-- ==== Proof.GridVal.lean ====
/-
  Over the grid: after point `t` the carried tile is row `256 t + 255` of the dynamic program and the carried number is
  the sum of the absolute differences of the first `2 t + 2` batches, so the last point's result is the loss.
-/
module

public import proofs.«01_k».proof.Proof.Point
public import proofs.«01_k».proof.Proof.GridStep

@[expose] public section

set_option maxRecDepth 16384

noncomputable section

namespace Cert.KernelIdeal.Dtw

open Idealize.ShloMosaic Idealize.ShloMosaic.TcCoe Idealize.SL.Sem
open Cert.KernelIdeal
open Cert.Dp

variable (m : (ℓ : Loc nD τ sig) → Buf (Elt Ideal) ℓ) (c : Dev nD)

/-- The two arguments by their places. -/
abbrev argA : Fin 16 → Fin 2048 → Fin 128 → EReal := entries (m ((c : Thread nD τ).loc main_arg0))
abbrev argB : Fin 16 → Fin 2048 → Fin 128 → EReal := entries (m ((c : Thread nD τ).loc main_arg1))

/-- The absolute differences of the first `n` batches. -/
def gaps (a b : Fin 16 → Fin 2048 → Fin 128 → EReal) (n : ℕ) : EReal :=
  ∑ k ∈ Finset.range n, if h : k < 16 then gap a b ⟨k, h⟩ else 0

theorem gaps_all (a b : Fin 16 → Fin 2048 → Fin 128 → EReal) : gaps a b 16 = ∑ n, gap a b n := by
  unfold gaps
  rw [Finset.sum_range]
  exact Finset.sum_congr rfl fun n _ => dif_pos n.isLt

/-- Two batches more. -/
theorem gaps_two (a b : Fin 16 → Fin 2048 → Fin 128 → EReal) (n : ℕ) (h : n + 1 < 16) :
    gaps a b (n + 2) = gaps a b n + (gap a b ⟨n, by omega⟩ + gap a b ⟨n + 1, h⟩) := by
  unfold gaps
  rw [Finset.sum_range_succ, Finset.sum_range_succ, dif_pos (by omega), dif_pos h, add_assoc]

/-- Two batches of differences on top of the sum so far. -/
theorem gap_of (x y : FVec Ideal S2x2048x128 .f32) (a b : Fin 16 → Fin 2048 → Fin 128 → EReal) (t : ℕ) (ht : t < 8)
    (hx : ∀ (n : Fin 2) (q : Fin 2048) (f : Fin 128), x (ValueIdx.ix3 n q f) = a ⟨2 * t + n.val, by omega⟩ q f)
    (hy : ∀ (n : Fin 2) (q : Fin 2048) (f : Fin 128), y (ValueIdx.ix3 n q f) = b ⟨2 * t + n.val, by omega⟩ q f)
    (e : EReal) (he : e = gaps a b (2 * t)) : Gen.k0_pay1017 (F := Ideal) x y e = gaps a b (2 * t + 2) := by
  rw [pay1017_apply, Fin.sum_univ_two, gaps_two _ _ _ (by omega), he]
  simp only [hx, hy]
  rfl

/-- The point adds its two batches to the sum. -/
theorem point_gap (t : Fin cfg0.N) (e : EReal) (he : e = gaps (argA m c) (argB m c) (2 * t.val)) :
    Gen.k0_pay1017 (F := Ideal) (Gen.iblk m c 0 t) (Gen.iblk m c 1 t) e = gaps (argA m c) (argB m c) (2 * t.val + 2) :=
  gap_of _ _ _ _ t.val (lt8 t) (fun n q f => block0_at m c t n q f) (fun n q f => block1_at m c t n q f) e he

variable (h : Cert.Pre_finite.fn (F := Ideal) (m ((c : Thread nD τ).loc main_arg0)) (m ((c : Thread nD τ).loc main_arg1)) = fun _ => 1#1)
include h

/-- A later point takes the dynamic program 256 rows on. -/
theorem swept_later (t : Fin cfg0.N) (ht : t.val ≠ 0) (init : FVec Ideal S8x256 .f32)
    (hi : Holds init (row (distances (argA m c 0) (argB m c 0)) (256 * t.val - 1))) :
    Holds (swept m c t init) (row (distances (argA m c 0) (argB m c 0)) (256 * t.val + 255)) := by
  have hs : startAt (grid0.coords t) = 0 := by
    unfold startAt
    rw [coord_eq, if_neg ht]
  unfold swept
  rw [hs]
  have e := holds_sweep (isPerm_block4 m c t) (isLow_block5 m c t) (isUex_block6 m c t) (holds_strips m c t h) 0
    (256 * t.val - 1) (by omega) hi 32 (by omega)
  rwa [show 256 * t.val - 1 + 8 * 32 = 256 * t.val + 255 by omega] at e

/-- The first point makes the first 256 rows. -/
theorem swept_first (t : Fin cfg0.N) (ht : t.val = 0) :
    Holds (swept m c t (begun m c t)) (row (distances (argA m c 0) (argB m c 0)) 255) := by
  have hs : startAt (grid0.coords t) = 1 := by
    unfold startAt
    rw [coord_eq, if_pos ht]
  have hst := holds_strips m c t h
  rw [ht] at hst
  unfold swept
  rw [hs]
  refine holds_sweep (isPerm_block4 m c t) (isLow_block5 m c t) (isUex_block6 m c t) hst 1 7 (by omega) ?_ 31 (by omega)
  refine holds_block8Init (isPerm_block4 m c t) (isLow_block5 m c t) (isUex_block6 m c t) (holdsBlk_blkOf hst 0 (by omega)) _ ?_ fun i => ?_
  · simp only [Nat.mul_zero, Nat.zero_add]
    rfl
  · simp only [Nat.mul_zero, Nat.zero_add]
    rfl

/-- What is carried after point `n`. -/
theorem carried : ∀ (n : ℕ) (hn : n < cfg0.N), n < 7 →
    Holds (Gen.outsAt0 m c n hn).2.1 (row (distances (argA m c 0) (argB m c 0)) (256 * n + 255))
    ∧ ∀ j, (Gen.outsAt0 m c n hn).2.2 j = gaps (argA m c) (argB m c) (2 * n + 2)
  | 0, hn, _ => by
    rw [Value.outsAt0_zero]
    refine ⟨?_, fun j => ?_⟩
    · rw [rowA m c ⟨0, hn⟩ _ rfl]
      exact swept_first m c h ⟨0, hn⟩ rfl
    · rw [sumA m c ⟨0, hn⟩ _ rfl]
      exact point_gap m c ⟨0, hn⟩ _ Ideal.ofBits_zero_f32
  | n + 1, hn, h7 => by
    obtain ⟨hr, hg⟩ := carried n (by omega) (by omega)
    rw [Value.outsAt0_succ]
    refine ⟨?_, fun j => ?_⟩
    · rw [rowB m c ⟨n + 1, hn⟩ _ (Nat.succ_ne_zero n) h7]
      exact swept_later m c h ⟨n + 1, hn⟩ (Nat.succ_ne_zero n) _ hr
    · rw [sumB m c ⟨n + 1, hn⟩ _ (Nat.succ_ne_zero n) h7]
      exact point_gap m c ⟨n + 1, hn⟩ _ (hg _)

/-- The kernel's result is the loss. -/
theorem result_eq (j : S1x1.Idx) : (Value.G7 m c : FVec Ideal S1x1 .f32) j = loss (argA m c) (argB m c) := by
  have hn : 7 < cfg0.N := lt_of_lt_of_eq (by decide) Gen.N_0.symm
  obtain ⟨hr, hg⟩ := carried m c h 6 (by omega) (by omega)
  have hs : swept m c ⟨7, hn⟩ (Gen.outsAt0 m c 6 (Nat.lt_of_succ_lt hn)).2.1 (ValueIdx.ix2 7 255)
      = row (distances (argA m c 0) (argB m c 0)) 2047 2047 :=
    swept_later m c h ⟨7, hn⟩ (Nat.succ_ne_zero 6) _ hr 7 255
  have hp : Gen.k0_pay1017 (F := Ideal) (Gen.iblk m c 0 ⟨7, hn⟩) (Gen.iblk m c 1 ⟨7, hn⟩)
      ((Gen.outsAt0 m c 6 (Nat.lt_of_succ_lt hn)).2.2 (Shape.Idx.first (by decide))) = gaps (argA m c) (argB m c) 16 :=
    point_gap m c ⟨7, hn⟩ _ (hg _)
  rw [Value.G7_last, ← Value.outsAt0_sweep m c 7 hn, Value.outsAt0_succ m c 6 hn, outC m c ⟨7, hn⟩ _ rfl, pay11_apply, hs, hp,
    gaps_all]
  rfl

end Cert.KernelIdeal.Dtw
end
-- ==== Proof.Prefix.lean ====
/-
  The reference's running sum and running minimum, windows over the entries up to each, read at an index over the
  extended reals.
-/
module

public import proofs.«01_k».proof.Proof.Dp
public import Idealize.ShloMosaic.Lib.ValueIdxCore
public import Idealize.ShloMosaic.PureOps.Ideal

@[expose] public section

noncomputable section

namespace Cert.Dp

open Idealize.ShloMosaic

/-- The rank-one shape of 2048 entries. -/
abbrev Row : Shape := ⟨1, ![2048]⟩

theorem row_numel : Row.numel = 2048 := Shape.numel_rank1 _

theorem row_symm (n : Fin Row.numel) : (Row.rowMajor.symm n 0).val = n.val := by
  have h := Shape.rowMajor_val_one (Row.rowMajor.symm n)
  rw [Equiv.apply_symm_apply] at h
  exact h.symm

/-- A fold over the window that ends at `j`, its terms spelled by their places. -/
theorem window_fold (op : EReal → EReal → EReal) (x : Row.Idx → EReal) (f : ℕ → EReal)
    (hx : ∀ i : Fin 2048, x (ValueIdx.ix1 i) = f i.val) {u : Shape} (init : u.Idx → EReal)
    (h : Row.ReduceWindows (![2048] : Fin 1 → Nat) ![1] ![2047] ![0] Row) (hu : 0 < u.numel) (j : Fin 2048) :
    Host.reduceWindow op ![2048] ![1] ![2047] ![0] x init h hu (ValueIdx.ix1 j)
      = (List.finRange Row.numel).foldl (fun r n => op r (if 2047 ≤ j.val + n.val then f (j.val + n.val - 2047)
          else init (Shape.Idx.first hu))) (init (Shape.Idx.first hu)) := by
  unfold Host.reduceWindow
  refine congrArg (fun g => List.foldl g (init (Shape.Idx.first hu)) (List.finRange Row.numel)) ?_
  funext r n
  refine congrArg (op r) ?_
  have hw := row_symm n
  have hn : n.val < 2048 := lt_of_lt_of_eq n.isLt row_numel
  have hj := j.isLt
  split
  · next hin =>
    have h0 := hin 0
    change 2047 ≤ j.val * 1 + (Row.rowMajor.symm n 0).val ∧ j.val * 1 + (Row.rowMajor.symm n 0).val - 2047 < 2048 at h0
    rw [hw] at h0
    rw [if_pos (by omega)]
    refine (congrArg x (funext fun a => Fin.ext ?_)).trans (hx ⟨j.val + n.val - 2047, by omega⟩)
    match a with
    | ⟨0, _⟩ =>
      show j.val * 1 + (Row.rowMajor.symm n 0).val - 2047 = j.val + n.val - 2047
      rw [hw, Nat.mul_one]
  · next hin =>
    rw [if_neg fun hle => hin fun a => by
      match a with
      | ⟨0, _⟩ =>
        show 2047 ≤ j.val * 1 + (Row.rowMajor.symm n 0).val ∧ j.val * 1 + (Row.rowMajor.symm n 0).val - 2047 < 2048
        rw [hw]
        omega]

theorem foldl_add {M : ℕ} (g : Fin M → EReal) (l : List (Fin M)) (v : EReal) :
    l.foldl (fun r n => r + g n) v = v + (l.map g).sum := by
  induction l generalizing v with
  | nil => simp
  | cons a l ih => rw [List.foldl_cons, ih, List.map_cons, List.sum_cons, add_assoc]

theorem le_foldl_min {M : ℕ} (g : Fin M → EReal) (l : List (Fin M)) (v x : EReal) :
    x ≤ l.foldl (fun r n => min r (g n)) v ↔ x ≤ v ∧ ∀ n ∈ l, x ≤ g n := by
  induction l generalizing v with
  | nil => simp
  | cons a l ih => rw [List.foldl_cons, ih, le_min_iff]; simp [and_assoc]

/-- The running sum. -/
theorem running_sum (x : FVec Ideal Row .f32) (f : ℕ → EReal) (hx : ∀ i : Fin 2048, x (ValueIdx.ix1 i) = f i.val)
    {u : Shape} (init : u.Idx → Ideal .f32) (h : Row.ReduceWindows (![2048] : Fin 1 → Nat) ![1] ![2047] ![0] Row)
    (hu : 0 < u.numel) (h0 : init (Shape.Idx.first hu) = (0 : EReal)) (j : Fin 2048) :
    Host.reduceWindowAdd ![2048] ![1] ![2047] ![0] x init h hu (ValueIdx.ix1 j) = sumTo f j.val := by
  change Ideal.hostReduceWindowAdd ![2048] ![1] ![2047] ![0] h x (init (Shape.Idx.first hu)) (ValueIdx.ix1 j) = _
  unfold Ideal.hostReduceWindowAdd
  refine (window_fold (· + ·) x f hx (fun _ : (⟨0, ![]⟩ : Shape).Idx => init (Shape.Idx.first hu)) h _ j).trans ?_
  rw [foldl_add, ← Fin.sum_univ_def, h0, zero_add]
  unfold sumTo
  have e : ∀ g : ℕ → EReal, ∑ n : Fin Row.numel, g n.val = ∑ n ∈ Finset.range 2048, g n := fun g =>
    (Finset.sum_range (n := Row.numel) g).symm.trans (congrArg (fun M => ∑ n ∈ Finset.range M, g n) row_numel)
  refine (e (fun n => if 2047 ≤ j.val + n then f (j.val + n - 2047) else 0)).trans ?_
  rw [← Finset.sum_filter]
  have hj := j.isLt
  refine Finset.sum_bij' (fun n _ => j.val + n - 2047) (fun k _ => k + 2047 - j.val) ?_ ?_ ?_ ?_ ?_
  · intro n hn; simp only [Finset.mem_filter, Finset.mem_range] at hn ⊢; omega
  · intro n hn; simp only [Finset.mem_filter, Finset.mem_range] at hn ⊢; omega
  · intro n hn; simp only [Finset.mem_filter, Finset.mem_range] at hn; show j.val + n - 2047 + 2047 - j.val = n; omega
  · intro n hn; simp only [Finset.mem_range] at hn; show j.val + (n + 2047 - j.val) - 2047 = n; omega
  · intro n hn; rfl

/-- The running minimum. -/
theorem running_min (x : FVec Ideal Row .f32) (f : ℕ → EReal) (hx : ∀ i : Fin 2048, x (ValueIdx.ix1 i) = f i.val)
    {u : Shape} (init : u.Idx → Ideal .f32) (h : Row.ReduceWindows (![2048] : Fin 1 → Nat) ![1] ![2047] ![0] Row)
    (hu : 0 < u.numel) (h0 : init (Shape.Idx.first hu) = (⊤ : EReal)) (j : Fin 2048) :
    Host.reduceWindow (FloatOps.minimumf : Ideal .f32 → Ideal .f32 → Ideal .f32) ![2048] ![1] ![2047] ![0] x init h hu
      (ValueIdx.ix1 j) = lowest f j.val := by
  refine (window_fold min x f hx init h hu j).trans ?_
  have hj := j.isLt
  refine eq_of_forall_le_iff fun y => ?_
  rw [le_foldl_min, le_lowest_iff, h0]
  constructor
  · rintro ⟨-, hy⟩ k hk
    have := hy ⟨k + 2047 - j.val, by rw [row_numel]; omega⟩ (List.mem_finRange _)
    rw [if_pos (by simp only; omega)] at this
    rwa [show j.val + (k + 2047 - j.val) - 2047 = k by omega] at this
  · refine fun hy => ⟨le_top, fun n _ => ?_⟩
    have hn : n.val < 2048 := lt_of_lt_of_eq n.isLt row_numel
    split
    · exact hy _ (by omega)
    · exact le_top

end Cert.Dp

end
-- ==== Proof.RefRows.lean ====
/-
  The reference's arrays as named functions of the two arguments: the table of distances, its first row and the rest,
  one row of the table picked, and one row of the dynamic program from the row before.
-/
module

public import proofs.«01_k».proof.Proof.RefRun
public import proofs.«01_k».proof.Proof.Prefix
public import Idealize.ShloMosaic.Lib.StableHlo.ReadAt
public import Idealize.ShloMosaic.Lib.ValueIdxCore
public import Idealize.ShloMosaic.Lib.Pointwise
public import Idealize.ShloMosaic.PureOps.Ideal

@[expose] public section

set_option maxRecDepth 16384

noncomputable section

namespace Cert.ReferenceIdeal.Dtw

open Idealize.ShloMosaic Idealize.ShloMosaic.TcCoe Idealize.ShloMosaic.StableHlo Idealize.SL.Sem
open Cert.ReferenceIdeal Cert.ReferenceIdeal.Gen Cert.ReferenceIdeal.Value
open Cert.Dp

variable {F : FTy → Type} [FloatOps F]

/-- Batch zero of an argument. -/
def batch0 (a : FVec F S16x2048x128 .f32) : FVec F S2048x128 .f32 :=
  shapeCast S2048x128 (extractStridedSlice S1x2048x128 ![0, 0, 0] a slices_S16x2048x128_S1x2048x128_0_0_0)
    shapeCasts_S1x2048x128_S2048x128

/-- The table of distances between the rows of two arrays. -/
def pairwise (x y : FVec F S2048x128 .f32) : FVec F S2048x2048 .f32 :=
  Host.sqrt (maximumf
    (subf
      (addf
        (broadcastInDim S2048x2048 ![0, 1] bcast_S2048x1_S2048x2048_0_1
          (broadcastInDim S2048x1 ![0] bcast_S2048_S2048x1_0
            (Host.reduceAdd (mulf x x) (constant S_ .f32 0x00000000#32) reducesTo_S2048x128_S2048_d1 h_S_)))
        (broadcastInDim S2048x2048 ![0, 1] bcast_S1x2048_S2048x2048_0_1
          (broadcastInDim S1x2048 ![1] bcast_S2048_S1x2048_1
            (Host.reduceAdd (mulf y y) (constant S_ .f32 0x00000000#32) reducesTo_S2048x128_S2048_d1 h_S_))))
      (mulf (broadcastInDim S2048x2048 ![] bcast_S_S2048x2048 (constant S_ .f32 0x40000000#32))
        (Host.dotGeneral dot_S2048x128_S128x2048_S2048x2048_1_0_0_1_n_n none x
          (transpose S128x2048 [1, 0] y transposes_S2048x128_S128x2048_1_0))))
    (broadcastInDim S2048x2048 ![] bcast_S_S2048x2048 (constant S_ .f32 0x2B8CBCCC#32)))

/-- The table's first row. -/
def firstRow (d : FVec F S2048x2048 .f32) : FVec F S2048 .f32 :=
  shapeCast S2048 (extractStridedSlice S1x2048 ![0, 0] d slices_S2048x2048_S1x2048_0_0) shapeCasts_S1x2048_S2048

/-- The table's other rows. -/
def otherRows (d : FVec F S2048x2048 .f32) : FVec F S2047x2048 .f32 :=
  extractStridedSlice S2047x2048 ![1, 0] d slices_S2048x2048_S2047x2048_1_0

/-- A row's running sum. -/
def runSum (x : FVec F S2048 .f32) : FVec F S2048 .f32 :=
  Host.reduceWindowAdd ![2048] ![1] ![2047] ![0] x (broadcastInDim S_ ![] bcast_S_S_ (constant S_ .f32 0x00000000#32))
    reduceWindows_S2048_S2048_w2048s1p2047_0 h_S_

/-- A row's running minimum. -/
def runMin (x : FVec F S2048 .f32) : FVec F S2048 .f32 :=
  Host.reduceWindow FloatOps.minimumf ![2048] ![1] ![2047] ![0] x
    (broadcastInDim S_ ![] bcast_S_S_ (constant S_ .f32 0x7F800000#32)) reduceWindows_S2048_S2048_w2048s1p2047_0 h_S_

/-- A row moved one place on, a given entry before it. -/
def moved (inf0 : FVec F S_ .f32) (p : FVec F S2048 .f32) : FVec F S2048 .f32 :=
  concatenate S2048 0 [⟨S1, broadcastInDim S1 ![] bcast_S_S1 inf0⟩,
    ⟨S2047, extractStridedSlice S2047 ![0] p slices_S2048_S2047_0⟩] concatenates_S1_S2047_S2048_d0

/-- One row of the dynamic program from the row before. -/
def nextRow (inf0 : FVec F S_ .f32) (d p : FVec F S2048 .f32) : FVec F S2048 .f32 :=
  addf (runSum d) (runMin (subf (addf d (minimumf p (moved inf0 p))) (runSum d)))

/-- A row picked by its number. -/
def pick (ds : FVec F S2047x2048 .f32) (k : IVec S_ 32) : FVec F S2048 .f32 :=
  shapeCast S2048 (Host.dynamicSlice S1x2048 ds
    (fun a => (((![k, constantI S_ 32 0#32] : Fin 2 → (⟨S_, .i32⟩ : BufTy).Contents (Elt F))) a (Shape.Idx.first h_S_)).toInt)
    sliceFits_S2047x2048_S1x2048) shapeCasts_S1x2048_S2048

section Reads

variable (m : (ℓ : Loc nD τ sig) → Buf (Elt F) ℓ)

/-- The table of distances of the two arguments' first batches. -/
def table (c : Dev nD) : FVec F S2048x2048 .f32 :=
  pairwise (batch0 (m ((c : Thread nD τ).loc main_arg0))) (batch0 (m ((c : Thread nD τ).loc main_arg1)))

/-- The mean absolute error of the two arguments. -/
def meanAbs (a b : FVec F S16x2048x128 .f32) : FVec F S_ .f32 :=
  Host.divf (Host.reduceAdd (Host.absf (subf a b)) (constant S_ .f32 0x00000000#32) reducesTo_S16x2048x128_S_d0_1_2 h_S_)
    (constant S_ .f32 0x4A800000#32)

theorem entry_mean (c : Dev nD) : entryContents preI m c (Proc.devRef .tc main_v3)
    = meanAbs (m ((c : Thread nD τ).loc main_arg0)) (m ((c : Thread nD τ).loc main_arg1)) := by
  simp only [entryContents, afterL_cons, afterL_nil]
  after_reads_simp
  rfl

theorem entry_others (c : Dev nD) : entryContents preI m c (Proc.devRef .tc main_v29_0) = otherRows (table m c) := by
  simp only [entryContents, afterL_cons, afterL_nil]
  after_reads_simp
  rfl

theorem entry_first (c : Dev nD) : entryContents preI m c (Proc.devRef .tc main_v29_3) = runSum (firstRow (table m c)) := by
  simp only [entryContents, afterL_cons, afterL_nil]
  after_reads_simp
  rfl

theorem entry_inf (c : Dev nD) : entryContents preI m c (Proc.devRef .tc main_v29_1) = (constant S_ .f32 0x7F800000#32 : FVec F S_ .f32) := by
  simp only [entryContents, afterL_cons, afterL_nil]
  after_reads_simp
  rfl

/-- The rows of distances stay through the loop. -/
theorem atK_others (c : Dev nD) : ∀ k, atK m k c (Proc.devRef .tc main_v29_0) = otherRows (table m c)
  | 0 => entry_others m c
  | k + 1 => (trip_agree (atK m k c) main_v29_0 (by decide)).trans ((STEP_main_v29_0 _).trans (atK_others c k))

theorem atK_inf (c : Dev nD) : ∀ k, atK m k c (Proc.devRef .tc main_v29_1) = (constant S_ .f32 0x7F800000#32 : FVec F S_ .f32)
  | 0 => entry_inf m c
  | k + 1 => (trip_agree (atK m k c) main_v29_1 (by decide)).trans ((STEP_main_v29_1 _).trans (atK_inf c k))

/-- One trip of the loop makes the next row. -/
theorem step_row (V0 : Valuation τ sig (Elt F)) : step_main_v29_3 V0
    = nextRow (V0 (Proc.devRef .tc main_v29_1))
        (pick (V0 (Proc.devRef .tc main_v29_0)) (V0 (Proc.devRef .tc main_v29_2))) (V0 (Proc.devRef .tc main_v29_3)) := rfl

theorem atK_row (c : Dev nD) (k : ℕ) : atK m (k + 1) c (Proc.devRef .tc main_v29_3)
    = nextRow (constant S_ .f32 0x7F800000#32 : FVec F S_ .f32) (pick (otherRows (table m c)) (fun _ => Scf.iv 0#32 1#32 k))
        (atK m k c (Proc.devRef .tc main_v29_3)) := by
  refine (trip_agree (atK m k c) main_v29_3 (by decide)).trans ((STEP_main_v29_3 _).trans ((step_row _).trans ?_))
  rw [atK_others, atK_inf, atK_ctr]
  rfl

/-- What the program leaves in its result. -/
theorem final_result (c : Dev nD) : finalContents condOps preI bodyI postI 2047 m c (Proc.devRef .tc main_v36)
    = shapeCast S1x1 (addf (mulf (constant S_ .f32 0x3F000000#32 : FVec F S_ .f32)
          (meanAbs (m ((c : Thread nD τ).loc main_arg0)) (m ((c : Thread nD τ).loc main_arg1))))
        (mulf (constant S_ .f32 0x3F000000#32 : FVec F S_ .f32)
          (Host.divf (shapeCast S_ (extractStridedSlice S1 ![2047] (atK m 2047 c (Proc.devRef .tc main_v29_3) : FVec F S2048 .f32)
            slices_S2048_S1_2047) shapeCasts_S1_S_) (constant S_ .f32 0x48800000#32)))) shapeCasts_S_S1x1 := by
  rw [final_eq]
  after_reads_simp
  rw [atK_untouched m c main_v3 (by unfold Untouched; decide +kernel), entry_mean]
  rfl

end Reads
-- ==== Proof.RefVal.lean ====
/-
  What the reference computes, over the extended reals: its table holds the rows' distances, the rows its loop makes
  are the rows of the dynamic program, and its result is half of the mean error plus half of the program's last entry.
-/
module

public import proofs.«01_k».proof.Proof.RefRows
public import proofs.«01_k».proof.Proof.Dp
public import proofs.«01_k».proof.Proof.Distance
public import Idealize.ShloMosaic.Lib.DynamicIndex
public import Idealize.ShloMosaic.Lib.WordArith.Masks

@[expose] public section

set_option maxRecDepth 16384

noncomputable section

namespace Cert.ReferenceIdeal.Dtw

open Idealize.ShloMosaic Idealize.ShloMosaic.TcCoe Idealize.ShloMosaic.StableHlo Idealize.SL.Sem
open Cert.ReferenceIdeal Cert.ReferenceIdeal.Gen Cert.ReferenceIdeal.Value
open Cert.Dp

theorem batch0_apply (a : FVec Ideal S16x2048x128 .f32) (q : Fin 2048) (f : Fin 128) :
    batch0 a (ValueIdx.ix2 q f) = a (ValueIdx.ix3 0 q f) := by
  unfold batch0
  pointwise
  rfl

theorem pairwise_apply (x y : FVec Ideal S2048x128 .f32) (i j : Fin 2048) :
    pairwise x y (ValueIdx.ix2 i j) = distance (fun k => x (ValueIdx.ix2 i k)) (fun k => y (ValueIdx.ix2 j k)) := by
  unfold pairwise distance square
  pointwise
  rfl

theorem firstRow_apply (d : FVec Ideal S2048x2048 .f32) (j : Fin 2048) :
    firstRow d (ValueIdx.ix1 j) = d (ValueIdx.ix2 0 j) := by
  unfold firstRow
  pointwise
  rfl

theorem otherRows_apply (d : FVec Ideal S2048x2048 .f32) (i : Fin 2047) (j : Fin 2048) :
    otherRows d (ValueIdx.ix2 i j) = d (ValueIdx.ix2 ⟨i.val + 1, by omega⟩ j) := by
  unfold otherRows
  pointwise
  exact congrArg (fun r : Fin 2048 => d (ValueIdx.ix2 r j)) (Fin.ext (Nat.add_comm 1 i.val))

theorem inf_bits : Ideal.ofBits .f32 0x7F800000#32 = ⊤ := by
  simp [Ideal.ofBits, Ideal.ieee]

theorem moved_apply (p : FVec Ideal S2048 .f32) (f : ℕ → EReal) (hp : ∀ i : Fin 2048, p (ValueIdx.ix1 i) = f i.val)
    (j : Fin 2048) : moved (constant S_ .f32 0x7F800000#32) p (ValueIdx.ix1 j) = before f j.val := by
  unfold moved before
  pointwise
  by_cases h : j.val = 0
  · rw [if_pos h]
    exact (dif_pos (show j.val < 1 by omega)).trans inf_bits
  · rw [if_neg h]
    exact (dif_neg (show ¬ j.val < 1 by omega)).trans (hp ⟨j.val - 1, by omega⟩)

theorem pick_apply (ds : FVec Ideal S2047x2048 .f32) (k : ℕ) (hk : k < 2047) (j : Fin 2048) :
    pick ds (fun _ => Scf.iv 0#32 1#32 k) (ValueIdx.ix1 j) = ds (ValueIdx.ix2 ⟨k, hk⟩ j) := by
  unfold pick
  rw [Idealize.ShloMosaic.Host.dynamicSlice_eq_extractStridedSlice (s := S2047x2048) S1x2048 ds _ ![k, 0] sliceFits_S2047x2048_S1x2048
    (by refine ⟨rfl, fun a => ?_⟩; fin_cases a
        · show k + 1 ≤ 2047
          omega
        · exact le_refl 2048)
    (by
      intro a
      fin_cases a
      · show (Scf.iv 0#32 1#32 k).toInt = (k : ℤ)
        rw [BitVec.toInt_eq_toNat_cond, WordArith.toNat_iv_zero_one k (by omega), if_pos (by omega)]
      · rfl)]
  pointwise
  rfl

theorem runSum_apply (x : FVec Ideal S2048 .f32) (f : ℕ → EReal) (hx : ∀ i : Fin 2048, x (ValueIdx.ix1 i) = f i.val)
    (j : Fin 2048) : runSum x (ValueIdx.ix1 j) = sumTo f j.val :=
  running_sum x f hx _ _ _ Ideal.ofBits_zero_f32 j

theorem runMin_apply (x : FVec Ideal S2048 .f32) (f : ℕ → EReal) (hx : ∀ i : Fin 2048, x (ValueIdx.ix1 i) = f i.val)
    (j : Fin 2048) : runMin x (ValueIdx.ix1 j) = lowest f j.val :=
  running_min x f hx _ _ _ inf_bits j

theorem nextRow_apply (d p : FVec Ideal S2048 .f32) (f g : ℕ → EReal) (hd : ∀ i : Fin 2048, d (ValueIdx.ix1 i) = f i.val)
    (hp : ∀ i : Fin 2048, p (ValueIdx.ix1 i) = g i.val) (j : Fin 2048) :
    nextRow (constant S_ .f32 0x7F800000#32) d p (ValueIdx.ix1 j) = step f g j.val := by
  unfold nextRow step
  refine congrArg₂ (fun a b : EReal => a + b) (runSum_apply d f hd j) (runMin_apply _ _ (fun i => ?_) j)
  exact congrArg₂ (fun a b : EReal => a - b)
    (congrArg₂ (fun a b : EReal => a + b) (hd i) (congrArg₂ (fun a b : EReal => min a b) (hp i) (moved_apply p g hp i)))
    (runSum_apply d f hd i)

section

variable (m : (ℓ : Loc nD τ sig) → Buf (Elt Ideal) ℓ)

/-- The distances between the rows of the first batches of two arguments. -/
def dist (a b : FVec Ideal S16x2048x128 .f32) : ℕ → ℕ → EReal :=
  distances (fun i k => a (ValueIdx.ix3 0 i k)) (fun j k => b (ValueIdx.ix3 0 j k))

theorem pairwise_batch0 (a b : FVec Ideal S16x2048x128 .f32) (i j : Fin 2048) :
    pairwise (batch0 a) (batch0 b) (ValueIdx.ix2 i j) = dist a b i.val j.val := by
  rw [pairwise_apply]
  refine Eq.trans ?_ (distances_of i.isLt j.isLt).symm
  exact congrArg₂ distance (funext fun k => batch0_apply a i k) (funext fun k => batch0_apply b j k)

/-- The loop's row after `k` trips is the dynamic program's row `k`. -/
theorem atK_apply (c : Dev nD) : ∀ k, k ≤ 2047 → ∀ j : Fin 2048,
    (atK m k c (Proc.devRef .tc main_v29_3) : FVec Ideal S2048 .f32) (ValueIdx.ix1 j)
      = row (dist (m ((c : Thread nD τ).loc main_arg0)) (m ((c : Thread nD τ).loc main_arg1))) k j.val
  | 0, _, j => (congrFun (entry_first m c) (ValueIdx.ix1 j)).trans
      (runSum_apply _ _ (fun i => (firstRow_apply _ i).trans (pairwise_batch0 _ _ 0 i)) j)
  | k + 1, hk, j => (congrFun (atK_row m c k) (ValueIdx.ix1 j)).trans
      (nextRow_apply _ _ _ _ (fun i => (pick_apply _ k (by omega) i).trans
        ((otherRows_apply _ ⟨k, by omega⟩ i).trans (pairwise_batch0 _ _ ⟨k + 1, by omega⟩ i)))
        (atK_apply c k (by omega)) j)

/-- An argument by its three places. -/
def entries (a : FVec Ideal S16x2048x128 .f32) (n : Fin 16) (q : Fin 2048) (f : Fin 128) : EReal := a (ValueIdx.ix3 n q f)

theorem meanAbs_apply (a b : FVec Ideal S16x2048x128 .f32) (j : S_.Idx) :
    meanAbs a b j = Ideal.div (∑ n, gap (entries a) (entries b) n) (Ideal.ofBits .f32 0x4A800000#32) := by
  unfold meanAbs
  pointwise
  rfl

theorem result_apply (c : Dev nD) (j : S1x1.Idx) :
    (finalContents condOps preI bodyI postI 2047 m c (Proc.devRef .tc main_v36) : FVec Ideal S1x1 .f32) j
      = loss (entries (m ((c : Thread nD τ).loc main_arg0))) (entries (m ((c : Thread nD τ).loc main_arg1))) := by
  rw [final_result]
  have hr := atK_apply m c 2047 le_rfl ⟨2047, by omega⟩
  have hm := meanAbs_apply (m ((c : Thread nD τ).loc main_arg0)) (m ((c : Thread nD τ).loc main_arg1))
  unfold loss
  generalize atK m 2047 c (Proc.devRef .tc main_v29_3) = r at hr ⊢
  generalize meanAbs (F := Ideal) (m ((c : Thread nD τ).loc main_arg0)) (m ((c : Thread nD τ).loc main_arg1)) = w at hm ⊢
  pointwise
  rw [hm]
  exact congrArg (fun e : EReal => (_ : EReal) + Ideal.ofBits .f32 0x3F000000#32 * Ideal.div e (Ideal.ofBits .f32 0x48800000#32)) hr

/-- The reference ends with the loss of its arguments, and leaves them as they were. -/
theorem run_loss (ρ : Dev nD → PrngReg) : θ_run (defs (F := Ideal)) (onTc (τ := τ) (main (F := Ideal))) ⟨m, fun _ => 0, ρ⟩ fun r => ∀ c : Dev nD,
      (∀ j : S1x1.Idx, (r.2.mem ((c.tc : Thread nD τ).loc main_v36) : FVec Ideal S1x1 .f32) j
        = loss (entries (m ((c : Thread nD τ).loc main_arg0))) (entries (m ((c : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun r h c => ⟨fun j => (congrFun (h c main_v36 rfl) j).trans (result_apply m c j),
    (h c main_arg0 rfl).trans (kept0 m c), (h c main_arg1 rfl).trans (kept1 m c)⟩) (run_fold m ρ)

end

end Cert.ReferenceIdeal.Dtw
end
-- ==== Proof.Equation.lean ====
/-
  The equation: from memories that agree on the arguments both programs end with the same number, the loss.
-/
module

public import proofs.«01_k».proof.Proof.GridVal
public import proofs.«01_k».proof.Proof.RefVal

@[expose] public section

set_option maxRecDepth 16384

noncomputable section

namespace Cert.Dtw

open Idealize.ShloMosaic Idealize.ShloMosaic.TcCoe Idealize.SL.Sem

theorem algebraic : Cert.algebraic_KernelIdeal_ReferenceIdeal_pre_finite := by
  intro m g m' g' hpre hargs
  refine ⟨fun c => Cert.KernelIdeal.Value.G7 m c, Cert.KernelIdeal.Value.run m g, ?_⟩
  refine (θ_run _ _ _).mono (fun r h c => ⟨funext fun j => ?_, (h c).2⟩) (Cert.ReferenceIdeal.Dtw.run_loss m' g')
  exact ((h c).1 j).trans ((congrArg₂ Cert.Dp.loss (congrArg Cert.ReferenceIdeal.Dtw.entries (hargs c).1)
    (congrArg Cert.ReferenceIdeal.Dtw.entries (hargs c).2)).trans (Cert.KernelIdeal.Dtw.result_eq m c (hpre c) j).symm)

end Cert.Dtw
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Gen.Pre_finite
public import proofs.«01_k».proof.Proof.RefRun
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ,
    fun m ρ _ => Cert.KernelIdeal.Gen.frame m ρ,
    fun m ρ _ => Cert.KernelIdeal.Gen.frame m ρ,
    fun m ρ _ => Cert.ReferenceIdeal.Dtw.frame m ρ,
    fun m ρ _ => Cert.ReferenceIdeal.Dtw.frame m ρ,
    IdealRules.named_const.statement Cert.KernelIdeal.κ "big" .f32 0x7F7FFFFF#32 ⊤ rfl,
    Cert.Dtw.algebraic⟩

end Cert.Proof

end
